-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v37) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v3) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hProj : Cert.Proj.Facts) (hProjIdeal : Cert.ProjIdeal.Facts) (hProjReferenceIdeal : Cert.ProjReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Merge (hMerge := hMerge)
    ∧ quiescent_MergeIdeal (hMergeIdeal := hMergeIdeal)
    ∧ quiescent_MergeReferenceIdeal (hMergeReferenceIdeal := hMergeReferenceIdeal)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Merge_MergeIdeal
    ∧ algebraic_MergeIdeal_MergeReferenceIdeal (hMergeIdeal := hMergeIdeal) (hMergeReferenceIdeal := hMergeReferenceIdeal)
    ∧ preserves_Proj_ProjIdeal
    ∧ algebraic_ProjIdeal_ProjReferenceIdeal (hProjIdeal := hProjIdeal) (hProjReferenceIdeal := hProjReferenceIdeal)
-- ==== Pre_finite_inputs.lean ====
abbrev S16384x3072 : Shape := ⟨2, ![16384, 3072]⟩
abbrev S16384x4096 : Shape := ⟨2, ![16384, 4096]⟩
abbrev S16384x4608 : Shape := ⟨2, ![16384, 4608]⟩
abbrev S32 : Shape := ⟨1, ![32]⟩
abbrev S2048 : Shape := ⟨1, ![2048]⟩
abbrev S16384x2048 : Shape := ⟨2, ![16384, 2048]⟩
abbrev S16384x32 : Shape := ⟨2, ![16384, 32]⟩
abbrev S_ : Shape := ⟨0, ![]⟩

class Facts : Prop where
  slices_S16384x4096_S16384x2048_0_0 : S16384x4096.Slices ![0, 0] S16384x2048
  slices_S16384x4608_S16384x32_0_4224 : S16384x4608.Slices ![0, 4224] S16384x32
  bcast_S_S16384x3072 : S_.BroadcastsInDim S16384x3072 (![] : Fin 0 → Fin S16384x3072.rank)
  reducesTo_S16384x3072_S_d0_1 : S16384x3072.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  bcast_S_S16384x32 : S_.BroadcastsInDim S16384x32 (![] : Fin 0 → Fin S16384x32.rank)
  reducesTo_S16384x32_S_d0_1 : S16384x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v15 : IVec S_ 1) (main_v16 : FVec F S32 .f32) (main_cst_4 : FVec F S_ .f32) : IVec S_ 1 :=
  let main_v17 : FVec F S32 .f32 := broadcastInDim S32 ![] bcast_S_S32 main_cst_4
  let main_v18 : IVec S32 1 := cmpf .olt main_v16 main_v17
  let main_c_5 : IVec S_ 1 := constantI S_ 1 1#1
  let main_v19 : IVec S_ 1 := (fun x v => Host.reduce IntOp.andi x v reducesTo_S32_S_d0 h_S_) main_v18 main_c_5
  let main_v20 : IVec S_ 1 := andi main_v15 main_v19
  let main_v21 : FVec F S32 .f32 := Host.absf main_arg4
  let main_cst_6 : FVec F S_ .f32 := constant S_ .f32 0x7F800000#32
  let main_v22 : FVec F S32 .f32 := broadcastInDim S32 ![] bcast_S_S32 main_cst_6
  let main_v23 : IVec S32 1 := cmpf .olt main_v21 main_v22
  let main_c_7 : IVec S_ 1 := constantI S_ 1 1#1
  let main_v24 : IVec S_ 1 := (fun x v => Host.reduce IntOp.andi x v reducesTo_S32_S_d0 h_S_) main_v23 main_c_7
  let main_v25 : IVec S_ 1 := andi main_v20 main_v24
  main_v25

def fn {F : FTy → Type} [FloatOps F] (main_arg0 : FVec F S16384x3072 .f32) (main_arg1 : FVec F S16384x4096 .f32) (main_arg2 : FVec F S16384x4608 .f32) (main_arg3 : FVec F S32 .f32) (main_arg4 : FVec F S32 .f32) (main_arg5 : FVec F S32 .f32) (main_arg6 : FVec F S2048 .f32) : IVec S_ 1 :=
  let main_v0 : FVec F S16384x2048 .f32 := (extractStridedSlice S16384x2048 ![0, 0] · slices_S16384x4096_S16384x2048_0_0) main_arg1
  let main_v1 : FVec F S16384x32 .f32 := (extractStridedSlice S16384x32 ![0, 4224] · slices_S16384x4608_S16384x32_0_4224) main_arg2
  let main_v2 : FVec F S16384x3072 .f32 := Host.absf main_arg0
  let main_cst : FVec F S_ .f32 := constant S_ .f32 0x7F800000#32
  let main_v3 : FVec F S16384x3072 .f32 := broadcastInDim S16384x3072 ![] bcast_S_S16384x3072 main_cst
  let main_v4 : IVec S16384x3072 1 := cmpf .olt main_v2 main_v3
  let main_c : IVec S_ 1 := constantI S_ 1 1#1
  let main_v5 : IVec S_ 1 := (fun x v => Host.reduce IntOp.andi x v reducesTo_S16384x3072_S_d0_1 h_S_) main_v4 main_c
  let main_v6 : FVec F S16384x2048 .f32 := Host.absf main_v0
  let main_cst_0 : FVec F S_ .f32 := constant S_ .f32 0x7F800000#32
  let main_v7 : FVec F S16384x2048 .f32 := broadcastInDim S16384x2048 ![] bcast_S_S16384x2048 main_cst_0
  let main_v8 : IVec S16384x2048 1 := cmpf .olt main_v6 main_v7
  let main_c_1 : IVec S_ 1 := constantI S_ 1 1#1
  let main_v9 : IVec S_ 1 := (fun x v => Host.reduce IntOp.andi x v reducesTo_S16384x2048_S_d0_1 h_S_) main_v8 main_c_1
  let main_v10 : IVec S_ 1 := andi main_v5 main_v9
  let main_v11 : FVec F S16384x32 .f32 := Host.absf main_v1
  let main_cst_2 : FVec F S_ .f32 := constant S_ .f32 0x7F800000#32
  let main_v12 : FVec F S16384x32 .f32 := broadcastInDim S16384x32 ![] bcast_S_S16384x32 main_cst_2
  let main_v13 : IVec S16384x32 1 := cmpf .olt main_v11 main_v12
  let main_c_3 : IVec S_ 1 := constantI S_ 1 1#1
  let main_v14 : IVec S_ 1 := (fun x v => Host.reduce IntOp.andi x v reducesTo_S16384x32_S_d0_1 h_S_) main_v13 main_c_3
  let main_v15 : IVec S_ 1 := andi main_v10 main_v14
  let main_v16 : FVec F S32 .f32 := Host.absf main_arg3
  let main_cst_4 : FVec F S_ .f32 := constant S_ .f32 0x7F800000#32
  fn_part1 (F := F) main_arg4 main_v15 main_v16 main_cst_4
-- ==== Kernel.lean ====
abbrev S16384x3072 : Shape := ⟨2, ![16384, 3072]⟩
abbrev S16384x4096 : Shape := ⟨2, ![16384, 4096]⟩
abbrev S16384x4608 : Shape := ⟨2, ![16384, 4608]⟩
abbrev S32 : Shape := ⟨1, ![32]⟩
abbrev S2048 : Shape := ⟨1, ![2048]⟩
abbrev S_ : Shape := ⟨0, ![]⟩
abbrev S128 : Shape := ⟨1, ![128]⟩
abbrev S128x1 : Shape := ⟨2, ![128, 1]⟩
abbrev S1x2048 : Shape := ⟨2, ![1, 2048]⟩
abbrev S128x2048 : Shape := ⟨2, ![128, 2048]⟩
abbrev S1x32 : Shape := ⟨2, ![1, 32]⟩
abbrev S1x128 : Shape := ⟨2, ![1, 128]⟩
abbrev S32x64 : Shape := ⟨2, ![32, 64]⟩
abbrev S16384x2048 : Shape := ⟨2, ![16384, 2048]⟩
abbrev S512x3072 : Shape := ⟨2, ![512, 3072]⟩
abbrev S512x2048 : Shape := ⟨2, ![512, 2048]⟩
abbrev S512x256 : Shape := ⟨2, ![512, 256]⟩
abbrev S4x128x512 : Shape := ⟨3, ![4, 128, 512]⟩
abbrev S128x128 : Shape := ⟨2, ![128, 128]⟩
abbrev S128x512 : Shape := ⟨2, ![128, 512]⟩
abbrev S1x128x512 : Shape := ⟨3, ![1, 128, 512]⟩
abbrev S1x512 : Shape := ⟨2, ![1, 512]⟩
abbrev S256x128 : Shape := ⟨2, ![256, 128]⟩
abbrev S128x256 : Shape := ⟨2, ![128, 256]⟩
abbrev S1x128x128 : Shape := ⟨3, ![1, 128, 128]⟩

abbrev nBuf : Space → Nat
  | .hbm => 75
  | .vmem => 15
  | .smem => 0
  | _ => 0

abbrev bufTy : (tb : Table) → Fin (tcTables nBuf tb) → BufTy
  | .hbm, ⟨0, _⟩ => ⟨S16384x3072, .f32⟩
  | .hbm, ⟨1, _⟩ => ⟨S16384x4096, .f32⟩
  | .hbm, ⟨2, _⟩ => ⟨S16384x4608, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S2048, .f32⟩
  | .hbm, ⟨7, _⟩ => ⟨S2048, .i32⟩
  | .hbm, ⟨8, _⟩ => ⟨S_, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S128, .i32⟩
  | .hbm, ⟨27, _⟩ => ⟨S128x1, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S128x1, .i32⟩
  | .hbm, ⟨35, _⟩ => ⟨S128x1, .i32⟩
  | .hbm, ⟨36, _⟩ => ⟨S_, .i32⟩
  | .hbm, ⟨37, _⟩ => ⟨S128x1, .i32⟩
  | .hbm, ⟨38, _⟩ => ⟨S128x1, .i1⟩
  | .hbm, ⟨39, _⟩ => ⟨S_, .i32⟩
  | .hbm, ⟨40, _⟩ => ⟨S128x1, .i32⟩
  | .hbm, ⟨41, _⟩ => ⟨S128x1, .i1⟩
  | .hbm, ⟨42, _⟩ => ⟨S_, .i32⟩
  | .hbm, ⟨43, _⟩ => ⟨S_, .i1⟩
  | .hbm, ⟨44, _⟩ => ⟨S128x1, .i1⟩
  | .hbm, ⟨45, _⟩ => ⟨S128x1, .i1⟩
  | .hbm, ⟨46, _⟩ => ⟨S128x1, .i1⟩
  | .hbm, ⟨47, _⟩ => ⟨S128x1, .i32⟩
  | .hbm, ⟨48, _⟩ => ⟨S128x1, .i32⟩
  | .hbm, ⟨49, _⟩ => ⟨S128x1, .i32⟩
  | .hbm, ⟨50, _⟩ => ⟨S1x2048, .i32⟩
  | .hbm, ⟨51, _⟩ => ⟨S128x2048, .i32⟩
  | .hbm, ⟨52, _⟩ => ⟨S128x2048, .i32⟩
  | .hbm, ⟨53, _⟩ => ⟨S128x2048, .i1⟩
  | .hbm, ⟨54, _⟩ => ⟨S128, .i32⟩
  | .hbm, ⟨55, _⟩ => ⟨S128x1, .i32⟩
  | .hbm, ⟨56, _⟩ => ⟨S_, .i32⟩
  | .hbm, ⟨57, _⟩ => ⟨S128x1, .i32⟩
  | .hbm, ⟨58, _⟩ => ⟨S128x1, .i1⟩
  | .hbm, ⟨59, _⟩ => ⟨S128x2048, .i1⟩
  | .hbm, ⟨60, _⟩ => ⟨S128x2048, .i1⟩
  | .hbm, ⟨61, _⟩ => ⟨S128x2048, .bf16⟩
  | .hbm, ⟨62, _⟩ => ⟨S1x32, .f32⟩
  | .hbm, ⟨63, _⟩ => ⟨S_, .i32⟩
  | .hbm, ⟨64, _⟩ => ⟨S_, .f32⟩
  | .hbm, ⟨65, _⟩ => ⟨S1x128, .f32⟩
  | .hbm, ⟨66, _⟩ => ⟨S1x32, .f32⟩
  | .hbm, ⟨67, _⟩ => ⟨S_, .i32⟩
  | .hbm, ⟨68, _⟩ => ⟨S_, .f32⟩
  | .hbm, ⟨69, _⟩ => ⟨S1x128, .f32⟩
  | .hbm, ⟨70, _⟩ => ⟨S32x64, .f32⟩
  | .hbm, ⟨71, _⟩ => ⟨S2048, .f32⟩
  | .hbm, ⟨72, _⟩ => ⟨S1x2048, .f32⟩
  | .hbm, ⟨73, _⟩ => ⟨S1x2048, .f32⟩
  | .hbm, ⟨74, _⟩ => ⟨S16384x2048, .bf16⟩
  | .local _ .vmem, ⟨0, _⟩ => ⟨S512x3072, .f32⟩
  | .local _ .vmem, ⟨1, _⟩ => ⟨S512x3072, .f32⟩
  | .local _ .vmem, ⟨2, _⟩ => ⟨S512x2048, .f32⟩
  | .local _ .vmem, ⟨3, _⟩ => ⟨S512x2048, .f32⟩
  | .local _ .vmem, ⟨4, _⟩ => ⟨S512x256, .f32⟩
  | .local _ .vmem, ⟨5, _⟩ => ⟨S512x256, .f32⟩
  | .local _ .vmem, ⟨6, _⟩ => ⟨S1x128, .f32⟩
  | .local _ .vmem, ⟨7, _⟩ => ⟨S1x128, .f32⟩
  | .local _ .vmem, ⟨8, _⟩ => ⟨S1x2048, .f32⟩
  | .local _ .vmem, ⟨9, _⟩ => ⟨S1x2048, .f32⟩
  | .local _ .vmem, ⟨10, _⟩ => ⟨S128x2048, .bf16⟩
  | .local _ .vmem, ⟨11, _⟩ => ⟨S512x2048, .bf16⟩
  | .local _ .vmem, ⟨12, _⟩ => ⟨S512x2048, .bf16⟩
  | .local _ .vmem, ⟨13, _⟩ => ⟨S4x128x512, .f32⟩
  | .local _ .vmem, ⟨14, _⟩ => ⟨S4x128x512, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v4 : Ref sig .tc := ⟨.hbm, 49, rfl⟩
abbrev main_v5 : Ref sig .tc := ⟨.hbm, 50, rfl⟩
abbrev main_v6 : Ref sig .tc := ⟨.hbm, 51, rfl⟩
abbrev main_v7 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_c_1 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_c_2 : Ref sig .tc := ⟨.hbm, 63, rfl⟩
abbrev main_call2_v0 : Ref sig .tc := ⟨.hbm, 64, rfl⟩
abbrev main_v17 : Ref sig .tc := ⟨.hbm, 65, rfl⟩
abbrev main_v18 : Ref sig .tc := ⟨.hbm, 66, rfl⟩
abbrev main_c_3 : Ref sig .tc := ⟨.hbm, 67, rfl⟩
abbrev main_call3_v0 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c16_i32 : BitVec 32 := 16#32
  let c0_i32 : BitVec 32 := 0#32
  ![v1.toNat, c16_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "neg_log2e" => some ((-((Real.log 2)⁻¹) : ℝ) : EReal)
  | _ => none
-- ==== ReferenceIdeal.lean ====
abbrev S16384x3072 : Shape := ⟨2, ![16384, 3072]⟩
abbrev S16384x4096 : Shape := ⟨2, ![16384, 4096]⟩
abbrev S16384x4608 : Shape := ⟨2, ![16384, 4608]⟩
abbrev S32 : Shape := ⟨1, ![32]⟩
abbrev S2048 : Shape := ⟨1, ![2048]⟩
abbrev S16384x2048 : Shape := ⟨2, ![16384, 2048]⟩
abbrev S4x4096x2048 : Shape := ⟨3, ![4, 4096, 2048]⟩
abbrev S4x4096x3072 : Shape := ⟨3, ![4, 4096, 3072]⟩
abbrev S16384x32 : Shape := ⟨2, ![16384, 32]⟩
abbrev S4x4096x32 : Shape := ⟨3, ![4, 4096, 32]⟩
abbrev S4x4096x512 : Shape := ⟨3, ![4, 4096, 512]⟩
abbrev S4x4096x32x64 : Shape := ⟨4, ![4, 4096, 32, 64]⟩
abbrev S4x4096x4x128 : Shape := ⟨4, ![4, 4096, 4, 128]⟩
abbrev S1x1x32 : Shape := ⟨3, ![1, 1, 32]⟩
abbrev S_ : Shape := ⟨0, ![]⟩
abbrev S4x4096x32x1 : Shape := ⟨4, ![4, 4096, 32, 1]⟩
abbrev S4x64x64x4x8x64 : Shape := ⟨6, ![4, 64, 64, 4, 8, 64]⟩
abbrev S4x64x64x4x128 : Shape := ⟨5, ![4, 64, 64, 4, 128]⟩
abbrev S4x64x64x4x8 : Shape := ⟨5, ![4, 64, 64, 4, 8]⟩
abbrev S64x64 : Shape := ⟨2, ![64, 64]⟩
abbrev S4x64x64x1x4x8 : Shape := ⟨6, ![4, 64, 64, 1, 4, 8]⟩
abbrev S4x64x1x64x4x8 : Shape := ⟨6, ![4, 64, 1, 64, 4, 8]⟩
abbrev S4x64x64x64x4x8 : Shape := ⟨6, ![4, 64, 64, 64, 4, 8]⟩
abbrev S1x1x64x64x1x1 : Shape := ⟨6, ![1, 1, 64, 64, 1, 1]⟩
abbrev S4x64x4x64x64 : Shape := ⟨5, ![4, 64, 4, 64, 64]⟩
abbrev S4x64x64x64x4 : Shape := ⟨5, ![4, 64, 64, 64, 4]⟩
abbrev S4x64x64x64x4x1 : Shape := ⟨6, ![4, 64, 64, 64, 4, 1]⟩
abbrev S4x64x4x8x64x64 : Shape := ⟨6, ![4, 64, 4, 8, 64, 64]⟩
abbrev S4x64x1x4x8 : Shape := ⟨5, ![4, 64, 1, 4, 8]⟩
abbrev S4x64x64x4x8x1 : Shape := ⟨6, ![4, 64, 64, 4, 8, 1]⟩
abbrev S4x64x4x8x64x128 : Shape := ⟨6, ![4, 64, 4, 8, 64, 128]⟩
abbrev S4x64x4x8 : Shape := ⟨4, ![4, 64, 4, 8]⟩
abbrev S4x4x8x64x128 : Shape := ⟨5, ![4, 4, 8, 64, 128]⟩
abbrev S64x4x4x8x64x128 : Shape := ⟨6, ![64, 4, 4, 8, 64, 128]⟩
abbrev S64x4x4x8 : Shape := ⟨4, ![64, 4, 4, 8]⟩
abbrev S1x4x4x8x64x128 : Shape := ⟨6, ![1, 4, 4, 8, 64, 128]⟩
abbrev S1x4x4x8 : Shape := ⟨4, ![1, 4, 4, 8]⟩
abbrev S4x4x8 : Shape := ⟨3, ![4, 4, 8]⟩
abbrev S4x4x8x1x1 : Shape := ⟨5, ![4, 4, 8, 1, 1]⟩
abbrev S32x1 : Shape := ⟨2, ![32, 1]⟩
abbrev S1x1x32x1 : Shape := ⟨4, ![1, 1, 32, 1]⟩
abbrev S4x4096x4x512 : Shape := ⟨4, ![4, 4096, 4, 512]⟩
abbrev S4x4096x4 : Shape := ⟨3, ![4, 4096, 4]⟩
abbrev S4x4096x4x1 : Shape := ⟨4, ![4, 4096, 4, 1]⟩
abbrev S1x1x2048 : Shape := ⟨3, ![1, 1, 2048]⟩

abbrev nBuf : Space → Nat
  | .hbm => 175
  | .vmem => 0
  | .smem => 0
  | _ => 0

abbrev hbmTy0_0 (i : Nat) : BufTy := match i % 128 with
  | 0 => ⟨S16384x3072, .f32⟩
  | 1 => ⟨S16384x4096, .f32⟩
  | 2 => ⟨S16384x4608, .f32⟩
  | 3 => ⟨S32, .f32⟩
  | 4 => ⟨S32, .f32⟩
  | 5 => ⟨S32, .f32⟩
  | 6 => ⟨S2048, .f32⟩
  | 7 => ⟨S16384x2048, .f32⟩
  | 8 => ⟨S4x4096x2048, .f32⟩
  | 9 => ⟨S4x4096x3072, .f32⟩
  | 10 => ⟨S16384x32, .f32⟩
  | 11 => ⟨S4x4096x32, .f32⟩
  | 12 => ⟨S4x4096x2048, .f32⟩
  | 13 => ⟨S4x4096x512, .f32⟩
  | 14 => ⟨S4x4096x512, .f32⟩
  | 15 => ⟨S4x4096x32x64, .f32⟩
  | 16 => ⟨S4x4096x4x128, .f32⟩
  | 17 => ⟨S4x4096x4x128, .f32⟩
  | 18 => ⟨S1x1x32, .f32⟩
  | 19 => ⟨S4x4096x32, .f32⟩
  | 20 => ⟨S4x4096x32, .f32⟩
  | 21 => ⟨S_, .f32⟩
  | 22 => ⟨S4x4096x32, .f32⟩
  | 23 => ⟨S4x4096x32, .f32⟩
  | 24 => ⟨S4x4096x32, .f32⟩
  | 25 => ⟨S4x4096x32, .f32⟩
  | 26 => ⟨S4x4096x32, .i1⟩
  | 27 => ⟨S4x4096x32, .f32⟩
  | 28 => ⟨S4x4096x32, .f32⟩
  | 29 => ⟨S4x4096x32, .f32⟩
  | 30 => ⟨S4x4096x32, .f32⟩
  | 31 => ⟨S4x4096x32, .f32⟩
  | 32 => ⟨S4x4096x32, .f32⟩
  | 33 => ⟨S4x4096x32, .f32⟩
  | 34 => ⟨S4x4096x32, .f32⟩
  | 35 => ⟨S32, .f32⟩
  | 36 => ⟨S32, .f32⟩
  | 37 => ⟨S4x4096x32x1, .f32⟩
  | 38 => ⟨S4x4096x32x64, .f32⟩
  | 39 => ⟨S4x4096x32x64, .f32⟩
  | 40 => ⟨S1x1x32, .f32⟩
  | 41 => ⟨S4x4096x32, .f32⟩
  | 42 => ⟨S4x4096x32, .f32⟩
  | 43 => ⟨S4x64x64x4x8x64, .f32⟩
  | 44 => ⟨S4x64x64x4x128, .f32⟩
  | 45 => ⟨S4x64x64x4x128, .f32⟩
  | 46 => ⟨S4x64x64x4x8, .f32⟩
  | 47 => ⟨S_, .f32⟩
  | 48 => ⟨S_, .f32⟩
  | 49 => ⟨S4x64x64x4x8, .f32⟩
  | 50 => ⟨S_, .i1⟩
  | 51 => ⟨S64x64, .i1⟩
  | 52 => ⟨S64x64, .i32⟩
  | 53 => ⟨S_, .i32⟩
  | 54 => ⟨S64x64, .i32⟩
  | 55 => ⟨S64x64, .i32⟩
  | 56 => ⟨S64x64, .i32⟩
  | 57 => ⟨S64x64, .i1⟩
  | 58 => ⟨S_, .i1⟩
  | 59 => ⟨S64x64, .i1⟩
  | 60 => ⟨S64x64, .i1⟩
  | 61 => ⟨S4x64x64x1x4x8, .f32⟩
  | 62 => ⟨S4x64x1x64x4x8, .f32⟩
  | 63 => ⟨S4x64x64x64x4x8, .f32⟩
  | 64 => ⟨S4x64x64x64x4x8, .f32⟩
  | 65 => ⟨S4x64x64x64x4x8, .f32⟩
  | 66 => ⟨S1x1x64x64x1x1, .i1⟩
  | 67 => ⟨S_, .f32⟩
  | 68 => ⟨S_, .f32⟩
  | 69 => ⟨S4x64x64x64x4x8, .i1⟩
  | 70 => ⟨S4x64x64x64x4x8, .f32⟩
  | 71 => ⟨S4x64x64x64x4x8, .f32⟩
  | 72 => ⟨S4x64x64x64x4x8, .f32⟩
  | 73 => ⟨S4x64x4x64x64, .f32⟩
  | 74 => ⟨S4x64x64x64x4, .f32⟩
  | 75 => ⟨S4x64x64x64x4x1, .f32⟩
  | 76 => ⟨S4x64x64x64x4x8, .f32⟩
  | 77 => ⟨S4x64x64x64x4x8, .f32⟩
  | 78 => ⟨S4x64x4x8x64x64, .f32⟩
  | 79 => ⟨S4x64x64x4x8x64, .f32⟩
  | 80 => ⟨S4x64x1x4x8, .f32⟩
  | 81 => ⟨S4x64x64x4x8, .f32⟩
  | 82 => ⟨S4x64x64x4x8, .f32⟩
  | 83 => ⟨S4x64x64x4x8, .f32⟩
  | 84 => ⟨S4x64x64x4x8x1, .f32⟩
  | 85 => ⟨S4x64x64x4x8x64, .f32⟩
  | 86 => ⟨S4x64x64x4x8x64, .f32⟩
  | 87 => ⟨S4x64x4x8x64x128, .f32⟩
  | 88 => ⟨S4x64x1x4x8, .f32⟩
  | 89 => ⟨S4x64x4x8, .f32⟩
  | 90 => ⟨S4x64x4x8, .f32⟩
  | 91 => ⟨S_, .f32⟩
  | 92 => ⟨S4x4x8x64x128, .f32⟩
  | 93 => ⟨S64x4x4x8x64x128, .f32⟩
  | 94 => ⟨S64x4x4x8, .f32⟩
  | 95 => ⟨S_, .f32⟩
  | 96 => ⟨S64x4x4x8x64x128, .f32⟩
  | 97 => ⟨S_, .i32⟩
  | 98 => ⟨S64x4x4x8x64x128, .f32⟩
  | 99 => ⟨S64x4x4x8, .f32⟩
  | 100 => ⟨S_, .i32⟩
  | 101 => ⟨S4x4x8x64x128, .f32⟩
  | 102 => ⟨S64x4x4x8x64x128, .f32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S_, .i32⟩
  | 110 => ⟨S1x4x4x8x64x128, .f32⟩
  | 111 => ⟨S4x4x8x64x128, .f32⟩
  | 112 => ⟨S_, .i32⟩
  | 113 => ⟨S_, .i32⟩
  | 114 => ⟨S_, .i32⟩
  | 115 => ⟨S1x4x4x8, .f32⟩
  | 116 => ⟨S4x4x8, .f32⟩
  | 117 => ⟨S4x4x8x1x1, .f32⟩
  | 118 => ⟨S4x4x8x64x128, .f32⟩
  | 119 => ⟨S4x4x8x64x128, .f32⟩
  | 120 => ⟨S4x4x8x64x128, .f32⟩
  | 121 => ⟨S1x4x4x8x64x128, .f32⟩
  | 122 => ⟨S_, .i32⟩
  | 123 => ⟨S_, .i32⟩
  | 124 => ⟨S_, .i32⟩
  | 125 => ⟨S_, .i32⟩
  | 126 => ⟨S_, .i32⟩
  | 127 => ⟨S64x4x4x8x64x128, .f32⟩
  | _ => ⟨S16384x3072, .f32⟩

abbrev hbmTy0_1 (i : Nat) : BufTy := match i % 128 with
  | 0 => ⟨S_, .i32⟩
  | 1 => ⟨S_, .i32⟩
  | 2 => ⟨S4x64x4x8x64x128, .f32⟩
  | 3 => ⟨S4x64x4x8x64x64, .f32⟩
  | 4 => ⟨S4x64x64x4x8x64, .f32⟩
  | 5 => ⟨S4x64x64x4x8, .f32⟩
  | 6 => ⟨S4x64x64x4x8x1, .f32⟩
  | 7 => ⟨S4x64x64x4x8x64, .f32⟩
  | 8 => ⟨S4x64x64x4x8x64, .f32⟩
  | 9 => ⟨S4x64x64x4x8x64, .f32⟩
  | 10 => ⟨S4x4096x32x64, .f32⟩
  | 11 => ⟨S32x1, .f32⟩
  | 12 => ⟨S1x1x32x1, .f32⟩
  | 13 => ⟨S4x4096x32x64, .f32⟩
  | 14 => ⟨S4x4096x32x64, .f32⟩
  | 15 => ⟨S4x4096x32x64, .f32⟩
  | 16 => ⟨S4x4096x2048, .f32⟩
  | 17 => ⟨S4x4096x2048, .f32⟩
  | 18 => ⟨S4x4096x2048, .f32⟩
  | 19 => ⟨S_, .f32⟩
  | 20 => ⟨S4x4096x2048, .f32⟩
  | 21 => ⟨S4x4096x2048, .f32⟩
  | 22 => ⟨S_, .f32⟩
  | 23 => ⟨S4x4096x2048, .f32⟩
  | 24 => ⟨S4x4096x2048, .f32⟩
  | 25 => ⟨S4x4096x2048, .f32⟩
  | 26 => ⟨S4x4096x2048, .f32⟩
  | 27 => ⟨S4x4096x4x512, .f32⟩
  | 28 => ⟨S4x4096x4x512, .f32⟩
  | 29 => ⟨S_, .f32⟩
  | 30 => ⟨S4x4096x4, .f32⟩
  | 31 => ⟨S4x4096x4x1, .f32⟩
  | 32 => ⟨S_, .f32⟩
  | 33 => ⟨S4x4096x4x1, .f32⟩
  | 34 => ⟨S4x4096x4x1, .f32⟩
  | 35 => ⟨S_, .f32⟩
  | 36 => ⟨S4x4096x4x1, .f32⟩
  | 37 => ⟨S4x4096x4x1, .f32⟩
  | 38 => ⟨S4x4096x4x1, .f32⟩
  | 39 => ⟨S4x4096x4x512, .f32⟩
  | 40 => ⟨S4x4096x4x512, .f32⟩
  | 41 => ⟨S4x4096x2048, .f32⟩
  | 42 => ⟨S1x1x2048, .f32⟩
  | 43 => ⟨S4x4096x2048, .f32⟩
  | 44 => ⟨S4x4096x2048, .f32⟩
  | 45 => ⟨S16384x2048, .f32⟩
  | 46 => ⟨S16384x2048, .bf16⟩
  | _ => ⟨S16384x3072, .f32⟩

abbrev hbmTy (i : Nat) : BufTy := match i / 128 with
  | 0 => hbmTy0_0 i
  | 1 => hbmTy0_1 i
  | _ => ⟨S16384x3072, .f32⟩

abbrev bufTy : (tb : Table) → Fin (tcTables nBuf tb) → BufTy
  | .hbm, ⟨i, _⟩ => hbmTy i
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call1_call0_cst : Ref sig .tc := ⟨.hbm, 47, rfl⟩
abbrev main_call1_call0_v0 : Ref sig .tc := ⟨.hbm, 48, rfl⟩
abbrev main_v27 : Ref sig .tc := ⟨.hbm, 49, rfl⟩
abbrev main_c : Ref sig .tc := ⟨.hbm, 50, rfl⟩
abbrev main_v28 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_0 : Ref sig .tc := ⟨.hbm, 58, rfl⟩
abbrev main_call2_v5 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_0 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_1 : Ref sig .tc := ⟨.hbm, 95, rfl⟩
abbrev main_v59 : Ref sig .tc := ⟨.hbm, 96, rfl⟩
abbrev main_c_2 : Ref sig .tc := ⟨.hbm, 97, rfl⟩
abbrev main_v60_0 : Ref sig .tc := ⟨.hbm, 98, rfl⟩
abbrev main_v60_1 : Ref sig .tc := ⟨.hbm, 99, rfl⟩
abbrev main_v60_2 : Ref sig .tc := ⟨.hbm, 100, rfl⟩
abbrev main_v60_3 : Ref sig .tc := ⟨.hbm, 101, rfl⟩
abbrev main_v60_4 : Ref sig .tc := ⟨.hbm, 102, rfl⟩
abbrev main_while0c_c_10 : Ref sig .tc := ⟨.hbm, 103, rfl⟩
abbrev main_while0c_v95 : Ref sig .tc := ⟨.hbm, 104, rfl⟩
abbrev main_while0b_call4_c : Ref sig .tc := ⟨.hbm, 105, rfl⟩
abbrev main_while0b_call4_c_0 : Ref sig .tc := ⟨.hbm, 106, rfl⟩
abbrev main_while0b_call4_c_1 : Ref sig .tc := ⟨.hbm, 107, rfl⟩
abbrev main_while0b_call4_c_2 : Ref sig .tc := ⟨.hbm, 108, rfl⟩
abbrev main_while0b_call4_c_3 : Ref sig .tc := ⟨.hbm, 109, rfl⟩
abbrev main_while0b_call4_v0 : Ref sig .tc := ⟨.hbm, 110, rfl⟩
abbrev main_while0b_v95 : Ref sig .tc := ⟨.hbm, 111, rfl⟩
abbrev main_while0b_call5_c : Ref sig .tc := ⟨.hbm, 112, rfl⟩
abbrev main_while0b_call5_c_0 : Ref sig .tc := ⟨.hbm, 113, rfl⟩
abbrev main_while0b_call5_c_1 : Ref sig .tc := ⟨.hbm, 114, rfl⟩
abbrev main_while0b_call5_v0 : Ref sig .tc := ⟨.hbm, 115, rfl⟩
abbrev main_while0b_v96 : Ref sig .tc := ⟨.hbm, 116, rfl⟩
abbrev main_while0b_v97 : Ref sig .tc := ⟨.hbm, 117, rfl⟩
abbrev main_while0b_v98 : Ref sig .tc := ⟨.hbm, 118, rfl⟩
abbrev main_while0b_v99 : Ref sig .tc := ⟨.hbm, 119, rfl⟩
abbrev main_while0b_v100 : Ref sig .tc := ⟨.hbm, 120, rfl⟩
abbrev main_while0b_call6_v0 : Ref sig .tc := ⟨.hbm, 121, rfl⟩
abbrev main_while0b_call6_c : Ref sig .tc := ⟨.hbm, 122, rfl⟩
abbrev main_while0b_call6_c_0 : Ref sig .tc := ⟨.hbm, 123, rfl⟩
abbrev main_while0b_call6_c_1 : Ref sig .tc := ⟨.hbm, 124, rfl⟩
abbrev main_while0b_call6_c_2 : Ref sig .tc := ⟨.hbm, 125, rfl⟩
abbrev main_while0b_call6_c_3 : Ref sig .tc := ⟨.hbm, 126, rfl⟩
abbrev main_while0b_v101 : Ref sig .tc := ⟨.hbm, 127, rfl⟩
abbrev main_while0b_c_10 : Ref sig .tc := ⟨.hbm, 128, rfl⟩
abbrev main_while0b_v102 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_call7_v0 : Ref sig .tc := ⟨.hbm, 145, rfl⟩
abbrev main_call7_v1 : Ref sig .tc := ⟨.hbm, 146, rfl⟩
abbrev main_call7_cst : Ref sig .tc := ⟨.hbm, 147, rfl⟩
abbrev main_call7_v2 : Ref sig .tc := ⟨.hbm, 148, rfl⟩
abbrev main_call7_v3 : Ref sig .tc := ⟨.hbm, 149, rfl⟩
abbrev main_call7_cst_0 : Ref sig .tc := ⟨.hbm, 150, rfl⟩
abbrev main_call7_v4 : Ref sig .tc := ⟨.hbm, 151, rfl⟩
abbrev main_call7_v5 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_cst_3 : Ref sig .tc := ⟨.hbm, 157, rfl⟩
abbrev main_v80 : Ref sig .tc := ⟨.hbm, 158, rfl⟩
abbrev main_v81 : Ref sig .tc := ⟨.hbm, 159, rfl⟩
abbrev main_cst_4 : Ref sig .tc := ⟨.hbm, 160, rfl⟩
abbrev main_v82 : Ref sig .tc := ⟨.hbm, 161, rfl⟩
abbrev main_v83 : Ref sig .tc := ⟨.hbm, 162, rfl⟩
abbrev main_cst_5 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩

abbrev nD : Nat := 1
abbrev τ : Topo := Topo.v7x

variable {F : FTy → Type} [FloatOps F]

abbrev main_while0_count : Scf.Loop 32 := ⟨0#32, 64#32, 1#32⟩
-- ==== Merge.lean ====
abbrev S4x4096x1024 : Shape := ⟨3, ![4, 4096, 1024]⟩
abbrev S16384x2048 : Shape := ⟨2, ![16384, 2048]⟩
abbrev S16384x1024 : Shape := ⟨2, ![16384, 1024]⟩
abbrev S16384x4096 : Shape := ⟨2, ![16384, 4096]⟩
abbrev S2048 : Shape := ⟨1, ![2048]⟩
abbrev S2048x1024 : Shape := ⟨2, ![2048, 1024]⟩
abbrev S1024x1024 : Shape := ⟨2, ![1024, 1024]⟩
abbrev S1024 : Shape := ⟨1, ![1024]⟩
abbrev S1x2048 : Shape := ⟨2, ![1, 2048]⟩
abbrev S1x1024 : Shape := ⟨2, ![1, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 16
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S16384x2048, .bf16⟩
  | .hbm, ⟨2, _⟩ => ⟨S16384x1024, .bf16⟩
  | .hbm, ⟨3, _⟩ => ⟨S16384x4096, .f32⟩
  | .hbm, ⟨4, _⟩ => ⟨S2048, .f32⟩
  | .hbm, ⟨5, _⟩ => ⟨S2048x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S16384x1024, .f32⟩
  | .hbm, ⟨10, _⟩ => ⟨S1x2048, .f32⟩
  | .hbm, ⟨11, _⟩ => ⟨S2048x1024, .bf16⟩
  | .hbm, ⟨12, _⟩ => ⟨S1024x1024, .bf16⟩
  | .hbm, ⟨13, _⟩ => ⟨S1024x1024, .bf16⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x2048, .f32⟩
  | .local _ .vmem, ⟨11, _⟩ => ⟨S2048x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeReferenceIdeal.lean ====
abbrev S4x4096x1024 : Shape := ⟨3, ![4, 4096, 1024]⟩
abbrev S16384x2048 : Shape := ⟨2, ![16384, 2048]⟩
abbrev S16384x1024 : Shape := ⟨2, ![16384, 1024]⟩
abbrev S16384x4096 : Shape := ⟨2, ![16384, 4096]⟩
abbrev S2048 : Shape := ⟨1, ![2048]⟩
abbrev S2048x1024 : Shape := ⟨2, ![2048, 1024]⟩
abbrev S1024x1024 : Shape := ⟨2, ![1024, 1024]⟩
abbrev S1024 : Shape := ⟨1, ![1024]⟩
abbrev S4x4096x2048 : Shape := ⟨3, ![4, 4096, 2048]⟩
abbrev S1x1x2048 : Shape := ⟨3, ![1, 1, 2048]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16384x2048, .bf16⟩
  | .hbm, ⟨2, _⟩ => ⟨S16384x1024, .bf16⟩
  | .hbm, ⟨3, _⟩ => ⟨S16384x4096, .f32⟩
  | .hbm, ⟨4, _⟩ => ⟨S2048, .f32⟩
  | .hbm, ⟨5, _⟩ => ⟨S2048x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S16384x2048, .f32⟩
  | .hbm, ⟨10, _⟩ => ⟨S4x4096x2048, .f32⟩
  | .hbm, ⟨11, _⟩ => ⟨S16384x2048, .f32⟩
  | .hbm, ⟨12, _⟩ => ⟨S4x4096x2048, .f32⟩
  | .hbm, ⟨13, _⟩ => ⟨S16384x1024, .f32⟩
  | .hbm, ⟨14, _⟩ => ⟨S4x4096x1024, .f32⟩
  | .hbm, ⟨15, _⟩ => ⟨S1x1x2048, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S4x4096x2048, .f32⟩
  | .hbm, ⟨20, _⟩ => ⟨S_, .f32⟩
  | .hbm, ⟨21, _⟩ => ⟨S4x4096x2048, .f32⟩
  | .hbm, ⟨22, _⟩ => ⟨S4x4096x2048, .f32⟩
  | .hbm, ⟨23, _⟩ => ⟨S_, .f32⟩
  | .hbm, ⟨24, _⟩ => ⟨S4x4096x2048, .f32⟩
  | .hbm, ⟨25, _⟩ => ⟨S4x4096x2048, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S_, .f32⟩
  | .hbm, ⟨42, _⟩ => ⟨S4x4096x1, .f32⟩
  | .hbm, ⟨43, _⟩ => ⟨S4x4096x1, .f32⟩
  | .hbm, ⟨44, _⟩ => ⟨S4x4096x1, .f32⟩
  | .hbm, ⟨45, _⟩ => ⟨S4x4096x1024, .f32⟩
  | .hbm, ⟨46, _⟩ => ⟨S4x4096x1024, .f32⟩
  | .hbm, ⟨47, _⟩ => ⟨S1x1x1024, .f32⟩
  | .hbm, ⟨48, _⟩ => ⟨S4x4096x1024, .f32⟩
  | .hbm, ⟨49, _⟩ => ⟨S4x4096x1024, .f32⟩
  | .hbm, ⟨50, _⟩ => ⟨S4x4096x1024, .f32⟩
  | .hbm, ⟨51, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Proj.lean ====
abbrev S16384x1024 : Shape := ⟨2, ![16384, 1024]⟩
abbrev S1024x4096 : Shape := ⟨2, ![1024, 4096]⟩
abbrev S16384x4096 : Shape := ⟨2, ![16384, 4096]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x4096, .f32⟩
  | .hbm, ⟨2, _⟩ => ⟨S1024x4096, .bf16⟩
  | .hbm, ⟨3, _⟩ => ⟨S16384x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjReferenceIdeal.lean ====
abbrev S16384x1024 : Shape := ⟨2, ![16384, 1024]⟩
abbrev S1024x4096 : Shape := ⟨2, ![1024, 4096]⟩
abbrev S4x4096x1024 : Shape := ⟨3, ![4, 4096, 1024]⟩
abbrev S4x4096x4096 : Shape := ⟨3, ![4, 4096, 4096]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x4096, .f32⟩
  | .hbm, ⟨2, _⟩ => ⟨S16384x1024, .f32⟩
  | .hbm, ⟨3, _⟩ => ⟨S4x4096x1024, .f32⟩
  | .hbm, ⟨4, _⟩ => ⟨S4x4096x4096, .f32⟩
  | .hbm, ⟨5, _⟩ => ⟨S16384x4096, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Math.lean ====
module

public import Mathlib.Analysis.SpecialFunctions.Exp
public import Mathlib.Algebra.BigOperators.Intervals
public import Mathlib.Algebra.BigOperators.Ring.Finset

/-! The recurrence over real numbers: one head's state and output, and how a chunk of any length carries them. -/

@[expose] public section

noncomputable section

namespace Cert.Ssd

open Finset

/-- The log-decay summed over the first `T` tokens. -/
def pre (a : ℕ → ℝ) (T : ℕ) : ℝ := ∑ s ∈ range T, a s

/-- One entry of the state after the first `T` tokens: token `s` entered with weight `w s` against `B s`. -/
def state (a w B : ℕ → ℝ) (T : ℕ) : ℝ :=
  ∑ s ∈ range T, B s * (Real.exp (pre a T - pre a (s + 1)) * w s)

/-- The output at token `t`: the state after `t` read by `C t`, written as a sum over the tokens up to `t`. -/
def out {N : ℕ} (a w : ℕ → ℝ) (B C : ℕ → Fin N → ℝ) (t : ℕ) : ℝ :=
  ∑ s ∈ range (t + 1), (∑ n, C t n * B s n) * (Real.exp (pre a (t + 1) - pre a (s + 1)) * w s)

theorem pre_add (a : ℕ → ℝ) (T L : ℕ) : pre a (T + L) = pre a T + ∑ k ∈ range L, a (T + k) := by
  unfold pre; rw [sum_range_add]

theorem pre_diff (a : ℕ → ℝ) (T l : ℕ) : ∑ k ∈ range l, a (T + k) = pre a (T + l) - pre a T := by
  rw [pre_add]; ring

theorem state_zero (a w B : ℕ → ℝ) : state a w B 0 = 0 := by simp [state]

/-- A chunk of `L` tokens after the first `T`: the state decays by the chunk's total and takes the chunk's tokens in. -/
theorem state_chunk (a w B : ℕ → ℝ) (T L : ℕ) :
    state a w B (T + L) = state a w B T * Real.exp (pre a (T + L) - pre a T)
      + ∑ k ∈ range L, B (T + k) * (w (T + k) * Real.exp (pre a (T + L) - pre a (T + k + 1))) := by
  unfold state
  rw [sum_range_add, sum_mul]
  congr 1
  · refine sum_congr rfl fun s _ => ?_
    rw [show pre a (T + L) - pre a (s + 1) = (pre a T - pre a (s + 1)) + (pre a (T + L) - pre a T) by ring, Real.exp_add]
    ring
  · refine sum_congr rfl fun k _ => ?_
    ring

/-- Inside a chunk after the first `T` tokens: the output is the chunk's own part and the entering state's. -/
theorem out_chunk {N : ℕ} (a w : ℕ → ℝ) (B C : ℕ → Fin N → ℝ) (T l : ℕ) :
    out a w B C (T + l)
      = ∑ k ∈ range (l + 1), (∑ n, C (T + l) n * B (T + k) n)
          * (Real.exp (pre a (T + l + 1) - pre a (T + k + 1)) * w (T + k))
        + (∑ n, C (T + l) n * state a w (fun s => B s n) T) * Real.exp (pre a (T + l + 1) - pre a T) := by
  unfold out
  rw [show T + l + 1 = T + (l + 1) by ring, sum_range_add, add_comm]
  congr 1
  unfold state
  rw [sum_mul]
  have h : ∀ n, C (T + l) n * (∑ s ∈ range T, B s n * (Real.exp (pre a T - pre a (s + 1)) * w s))
        * Real.exp (pre a (T + (l + 1)) - pre a T)
      = ∑ s ∈ range T, C (T + l) n * B s n * (Real.exp (pre a (T + (l + 1)) - pre a (s + 1)) * w s) := by
    intro n
    rw [mul_sum, sum_mul]
    refine sum_congr rfl fun s _ => ?_
    rw [show pre a (T + (l + 1)) - pre a (s + 1) = (pre a T - pre a (s + 1)) + (pre a (T + (l + 1)) - pre a T) by ring, Real.exp_add]
    ring
  simp only [h]
  rw [sum_comm]
  refine sum_congr rfl fun s _ => ?_
  rw [sum_mul]

end Cert.Ssd

end
-- ==== Proof.Scalar.lean ====
module

public import proofs.«01_k».proof.Proof.Math
public import Idealize.ShloMosaic.Lib.Pointwise
public import Mathlib.Analysis.SpecialFunctions.Pow.Real
public import Mathlib.Analysis.SpecialFunctions.Trigonometric.DerivHyp

/-! The scalar functions both programs apply, at finite arguments: each is a real number, and the two spellings agree. -/

@[expose] public section

noncomputable section

namespace Cert.Ssd

open Idealize.ShloMosaic

/-- A finite sum of real numbers is a real number. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, EReal.coe_add, ih]

/-- The step size's activation: `log (1 + exp x)`, as both programs compute it. -/
def sp (x : EReal) : EReal := max x 0 + Ideal.log (1 + Ideal.exp (0 - max x (-x)))

/-- `sp` at a real number. -/
def spR (x : ℝ) : ℝ := max x 0 + Real.log (1 + Real.exp (0 - max x (-x)))

theorem sp_coe (x : ℝ) : sp (x : EReal) = (spR x : EReal) := by
  have h : ¬ (1 + Real.exp (0 - max x (-x)) ≤ 0) := not_le.2 (by positivity)
  have hm : ∀ p q : ℝ, max (p : EReal) (q : EReal) = ((max p q : ℝ) : EReal) := fun p q => (EReal.coe_strictMono.monotone.map_max).symm
  unfold sp spR
  rw [← EReal.coe_neg, ← EReal.coe_zero, hm, hm, ← EReal.coe_sub, Ideal.exp_coe, ← EReal.coe_one,
    ← EReal.coe_add, Ideal.log_coe, if_neg h, ← EReal.coe_add]

/-- The gate's activation at a real number. -/
def siluR (z : ℝ) : ℝ := z * (1 / (1 + Real.exp (-z)))

/-- `z · (1 / (1 + exp (-z)))` is the activation. -/
theorem silu_logistic (z : ℝ) : (z : EReal) * Ideal.div 1 (1 + Ideal.exp (-(z : EReal))) = (siluR z : EReal) := by
  have h : (1 + Real.exp (-z)) ≠ 0 := by positivity
  rw [← EReal.coe_neg, Ideal.exp_coe, ← EReal.coe_one, ← EReal.coe_add, Ideal.div_coe h, ← EReal.coe_mul, ← EReal.coe_mul]
  simp [siluR]

/-- `h + h · tanh h` with `h = z / 2` is the activation. -/
theorem silu_tanh (c : EReal) (hc : c = ((1 / 2 : ℝ) : EReal)) (z : ℝ) :
    c * (z : EReal) + c * (z : EReal) * Ideal.tanh (c * (z : EReal)) = (siluR z : EReal) := by
  subst hc
  rw [← EReal.coe_mul, Ideal.tanh_coe, ← EReal.coe_mul, ← EReal.coe_add]
  congr 1
  unfold siluR
  have e : Real.exp (-z) = Real.exp (-(1 / 2 * z)) * Real.exp (-(1 / 2 * z)) := by rw [← Real.exp_add]; ring_nf
  have p : Real.exp (1 / 2 * z) * Real.exp (-(1 / 2 * z)) = 1 := by rw [← Real.exp_add]; simp
  rw [Real.tanh_eq_sinh_div_cosh, Real.sinh_eq, Real.cosh_eq, e]
  have h1 : 0 < Real.exp (1 / 2 * z) := Real.exp_pos _
  have h2 : 0 < Real.exp (-(1 / 2 * z)) := Real.exp_pos _
  generalize Real.exp (1 / 2 * z) = a at *
  generalize Real.exp (-(1 / 2 * z)) = b at *
  field_simp
  linear_combination (2 * z * b) * p

/-- Two to the power `x / log 2` is `exp x`. -/
theorem exp2_scaled (x : ℝ) : Ideal.exp2 (((Real.log 2)⁻¹ * x : ℝ) : EReal) = (Real.exp x : EReal) := by
  have h : Real.log 2 ≠ 0 := (Real.log_pos (by norm_num)).ne'
  rw [Ideal.exp2_coe]
  congr 1
  show (2 : ℝ) ^ ((Real.log 2)⁻¹ * x) = _
  rw [Real.rpow_def_of_pos (by norm_num)]
  congr 1
  field_simp

theorem sub_self_coe (x : ℝ) : (x : EReal) - (x : EReal) = 0 := by rw [← EReal.coe_sub, sub_self, EReal.coe_zero]

/-- The terms up to `l` of a sum over `n`. -/
theorem sum_upto {n : ℕ} (f : ℕ → ℝ) (l : Fin n) :
    ∑ k : Fin n, (if k ≤ l then f k else 0) = ∑ k ∈ Finset.range (l.val + 1), f k := by
  have e : ∀ k : Fin n, (if k ≤ l then f k else 0) = (fun k : ℕ => if k ≤ l.val then f k else 0) k.val := fun k => rfl
  rw [Finset.sum_congr rfl fun k _ => e k, Fin.sum_univ_eq_sum_range (fun k : ℕ => if k ≤ l.val then f k else 0) n,
    ← Finset.sum_filter]
  congr 1
  ext k
  have := l.isLt
  simp only [Finset.mem_filter, Finset.mem_range]
  omega

/-- A sum against a row of the lower triangle of ones. -/
theorem tri_sum {n : ℕ} (f : ℕ → ℝ) (l : Fin n) :
    ∑ k : Fin n, (if k ≤ l then (1 : EReal) else 0) * ((f k.val : ℝ) : EReal) = ((∑ k ∈ Finset.range (l.val + 1), f k : ℝ) : EReal) := by
  rw [← sum_upto, ← coe_sum]
  refine Finset.sum_congr rfl fun k _ => ?_
  split <;> simp

end Cert.Ssd

end
-- ==== Proof.Data.lean ====
module

public import proofs.«01_k».proof.Proof.Scalar

/-! The layer's data as real functions of the token, and the row both programs compute. -/

@[expose] public section

noncomputable section

namespace Cert.Ssd

open Idealize.ShloMosaic

/-- Row of token `s` of batch `b`. -/
def rowOf (b s : ℕ) : Fin 16384 := ⟨(4096 * b + s) % 16384, Nat.mod_lt _ (by norm_num)⟩

/-- The seven arguments. -/
structure Args where
  u : (⟨2, ![16384, 3072]⟩ : Shape).Idx → EReal
  zg : (⟨2, ![16384, 4096]⟩ : Shape).Idx → EReal
  rw : (⟨2, ![16384, 4608]⟩ : Shape).Idx → EReal
  bias : (⟨1, ![32]⟩ : Shape).Idx → EReal
  alog : (⟨1, ![32]⟩ : Shape).Idx → EReal
  skip : (⟨1, ![32]⟩ : Shape).Idx → EReal
  gain : (⟨1, ![2048]⟩ : Shape).Idx → EReal

/-- Every entry the two programs read of the first five arguments is finite. -/
structure Args.Finite (A : Args) : Prop where
  u : ∀ (R : Fin 16384) (q : Fin 3072), A.u (ix2 R q) = (((A.u (ix2 R q)).toReal : ℝ) : EReal)
  zg : ∀ (R : Fin 16384) (q : Fin 4096), q.val < 2048 → A.zg (ix2 R q) = (((A.zg (ix2 R q)).toReal : ℝ) : EReal)
  rw : ∀ (R : Fin 16384) (q : Fin 4608), 4224 ≤ q.val → q.val < 4256 → A.rw (ix2 R q) = (((A.rw (ix2 R q)).toReal : ℝ) : EReal)
  bias : ∀ j : Fin 32, A.bias (ix1 j) = (((A.bias (ix1 j)).toReal : ℝ) : EReal)
  alog : ∀ j : Fin 32, A.alog (ix1 j) = (((A.alog (ix1 j)).toReal : ℝ) : EReal)

namespace Args

variable (A : Args)

/-- Head `j`'s step size at token `s`. -/
def D (b : ℕ) (j : Fin 128) (s : ℕ) : ℝ :=
  spR ((A.rw (ix2 (rowOf b s) ⟨4224 + j.val, by omega⟩)).toReal + (A.bias (ix1 ⟨j.val % 32, Nat.mod_lt _ (by norm_num)⟩)).toReal)

/-- Head `j`'s decay rate. -/
def E (j : Fin 128) : ℝ := Real.exp (A.alog (ix1 ⟨j.val % 32, Nat.mod_lt _ (by norm_num)⟩)).toReal

/-- Column `q` of group `g` of the input. -/
def X (b : ℕ) (g : Fin 4) (q : Fin 512) (s : ℕ) : ℝ := (A.u (ix2 (rowOf b s) ⟨512 * g.val + q.val, by omega⟩)).toReal

/-- Group `g`'s input projection. -/
def B (b : ℕ) (g : Fin 4) (s : ℕ) (n : Fin 128) : ℝ := (A.u (ix2 (rowOf b s) ⟨2048 + 128 * g.val + n.val, by omega⟩)).toReal

/-- Group `g`'s output projection. -/
def C (b : ℕ) (g : Fin 4) (s : ℕ) (n : Fin 128) : ℝ := (A.u (ix2 (rowOf b s) ⟨2560 + 128 * g.val + n.val, by omega⟩)).toReal

/-- The head of column `q` of group `g`. -/
def head (g : Fin 4) (q : Fin 512) : Fin 128 := ⟨8 * g.val + q.val / 64, by omega⟩

/-- The recurrence's output. -/
def scan (b : ℕ) (g : Fin 4) (q : Fin 512) (s : ℕ) : ℝ :=
  out (fun s => A.D b (head g q) s * -A.E (head g q)) (fun s => A.D b (head g q) s * A.X b g q s) (A.B b g) (A.C b g) s

/-- The recurrence's output with its skip term, gated. -/
def gate (R : Fin 16384) (g : Fin 4) (q : Fin 512) : EReal :=
  (((A.scan (R.val / 4096) g q (R.val % 4096) : ℝ) : EReal)
      + A.skip (ix1 ⟨8 * g.val + q.val / 64, by omega⟩) * A.u (ix2 R ⟨512 * g.val + q.val, by omega⟩))
    * ((siluR (A.zg (ix2 R ⟨512 * g.val + q.val, by omega⟩)).toReal : ℝ) : EReal)

/-- The row both programs compute: the gated output over its root mean square within the group, times the gain. -/
def row (R : Fin 16384) (g : Fin 4) (q : Fin 512) : EReal :=
  A.gate R g q * Ideal.rsqrt (Ideal.div (∑ p, A.gate R g p * A.gate R g p) (Ideal.ofBits .f32 0x44000000#32) + Ideal.ofBits .f32 0x358637BD#32)
    * A.gain (ix1 ⟨512 * g.val + q.val, by omega⟩)

end Args

end Cert.Ssd

end
-- ==== Proof.RefA.lean ====
module

public import proofs.«01_k».proof.Proof.Data
public import proofs.«01_k».proof.Proof.Gen.ReferenceIdeal.Run
public import Idealize.ShloMosaic.Lib.Pointwise
public import Idealize.ShloMosaic.Lib.Claim

/-! What the reference's operations before its loop compute, stage by stage. -/

@[expose] public section

set_option maxRecDepth 16384

noncomputable section

namespace Cert.ReferenceIdeal.Ssd

open Idealize.ShloMosaic Idealize.ShloMosaic.TcCoe Idealize.SL.Sem
open Cert.ReferenceIdeal Cert.ReferenceIdeal.Gen Cert.Ssd

/-- A window sum of 64 along axis 2, padded 63 low, is the running sum along that axis. -/
theorem cumsum_at (x : FVec Ideal S4x64x64x4x8 .f32) (i : FVec Ideal S_ .f32) (hi : i (Shape.Idx.first h_S_) = 0) (b : Fin 4) (c l : Fin 64) (g : Fin 4) (j : Fin 8)
    (f : ℕ → ℝ) (hf : ∀ s : Fin 64, x (ix5 b c s g j) = ((f s.val : ℝ) : EReal)) :
    Host.reduceWindowAdd ![1, 1, 64, 1, 1] ![1, 1, 1, 1, 1] ![0, 0, 63, 0, 0] ![0, 0, 0, 0, 0] x i
      reduceWindows_S4x64x64x4x8_S4x64x64x4x8_w1s1p0_0_w1s1p0_0_w64s1p63_0_w1s1p0_0_w1s1p0_0 h_S_ (ix5 b c l g j)
      = ((∑ s ∈ Finset.range (l.val + 1), f s : ℝ) : EReal) := by
  have hfold : ∀ {α : Type} (L : List α) (F : α → EReal) (r : EReal), L.foldl (fun r n => r + F n) r = r + (L.map F).sum := by
    intro α L F
    induction L with
    | nil => intro r; simp
    | cons a L ih => intro r; rw [List.foldl_cons, ih, List.map_cons, List.sum_cons, add_assoc]
  unfold Host.reduceWindowAdd
  rw [Ideal.hostReduceWindowAdd_def]
  unfold Ideal.hostReduceWindowAdd Host.reduceWindow
  dsimp only
  rw [hi, hfold, zero_add, ← Fin.sum_univ_def]
  let e : Fin 64 ≃ (⟨5, ![1, 1, 64, 1, 1]⟩ : Shape).Idx :=
    { toFun := fun k => ix5 0 0 k 0 0
      invFun := fun i => i 2
      left_inv := fun k => rfl
      right_inv := fun i => by
        funext a
        fin_cases a
        · exact Subsingleton.elim (α := Fin 1) _ _
        · exact Subsingleton.elim (α := Fin 1) _ _
        · rfl
        · exact Subsingleton.elim (α := Fin 1) _ _
        · exact Subsingleton.elim (α := Fin 1) _ _ }
  let G : (⟨5, ![1, 1, 64, 1, 1]⟩ : Shape).Idx → EReal := fun w =>
    if hin : ∀ a, (![0, 0, 63, 0, 0] : Fin 5 → ℕ) a ≤ ((ix5 b c l g j : S4x64x64x4x8.Idx) a).val * (![1, 1, 1, 1, 1] : Fin 5 → ℕ) a + (w a).val
      ∧ ((ix5 b c l g j : S4x64x64x4x8.Idx) a).val * (![1, 1, 1, 1, 1] : Fin 5 → ℕ) a + (w a).val - (![0, 0, 63, 0, 0] : Fin 5 → ℕ) a < S4x64x64x4x8.size a
    then x (fun a => ⟨_, (hin a).2⟩) else 0
  have hG : ∀ k : Fin 64, G (e k) = (fun k : ℕ => ((if 63 ≤ l.val + k then f (l.val + k - 63) else 0 : ℝ) : EReal)) k.val := by
    intro k
    show G (ix5 0 0 k 0 0) = _
    dsimp only [G]
    by_cases hk : 63 ≤ l.val + k.val
    · rw [dif_pos (by
        intro a
        fin_cases a
        · exact ⟨Nat.zero_le _, by show b.val * 1 + 0 - 0 < 4; omega⟩
        · exact ⟨Nat.zero_le _, by show c.val * 1 + 0 - 0 < 64; omega⟩
        · exact ⟨by show 63 ≤ l.val * 1 + k.val; omega, by show l.val * 1 + k.val - 63 < 64; omega⟩
        · exact ⟨Nat.zero_le _, by show g.val * 1 + 0 - 0 < 4; omega⟩
        · exact ⟨Nat.zero_le _, by show j.val * 1 + 0 - 0 < 8; omega⟩), if_pos hk]
      refine (congrArg x ?_).trans (hf ⟨l.val + k.val - 63, by omega⟩)
      funext a
      fin_cases a <;> apply Fin.ext
      · show b.val * 1 + 0 - 0 = b.val; omega
      · show c.val * 1 + 0 - 0 = c.val; omega
      · show l.val * 1 + k.val - 63 = l.val + k.val - 63; omega
      · show g.val * 1 + 0 - 0 = g.val; omega
      · show j.val * 1 + 0 - 0 = j.val; omega
    · rw [dif_neg (fun h => hk (by have := (h 2).1; simpa using this)), if_neg hk, EReal.coe_zero]
  refine (Finset.sum_congr rfl fun n _ => (dite_congr rfl (fun _ => rfl) (fun _ => rfl) : _ = G ((Shape.rowMajor ⟨5, ![1, 1, 64, 1, 1]⟩).symm n))).trans
    ((Equiv.sum_comp (Shape.rowMajor ⟨5, ![1, 1, 64, 1, 1]⟩).symm G).trans ?_)
  rw [← Equiv.sum_comp e, Finset.sum_congr rfl fun k _ => hG k,
    Fin.sum_univ_eq_sum_range (fun k : ℕ => ((if 63 ≤ l.val + k then f (l.val + k - 63) else 0 : ℝ) : EReal)) 64, coe_sum]
  congr 1
  have hl := l.isLt
  obtain ⟨d, hd⟩ : ∃ d, d + (l.val + 1) = 64 := ⟨63 - l.val, by omega⟩
  generalize l.val = l at hl hd ⊢
  rw [← hd, Finset.sum_range_add, Finset.sum_eq_zero (fun k hk => if_neg (by have := Finset.mem_range.1 hk; omega)), zero_add]
  refine Finset.sum_congr rfl fun k hk => ?_
  rw [if_pos (by omega)]
  congr 1
  omega

theorem row_eq (b : Fin 4) (s : Fin 4096) (h : b.val * 4096 + s.val < 16384) : (⟨b.val * 4096 + s.val, h⟩ : Fin 16384) = rowOf b.val s.val := by
  apply Fin.ext
  show b.val * 4096 + s.val = (4096 * b.val + s.val) % 16384
  omega

/-- The step size's activation as the reference writes it. -/
theorem ref_sp (x : EReal) (r : ℝ) (h : x = (r : EReal)) :
    (if x ≠ x then x else max x 0 + Ideal.log1p (Ideal.exp (-FloatOps.absf (F := Ideal) (φ := .f32) x))) = (spR r : EReal) := by
  subst h
  rw [if_neg (fun h => h rfl), ← sp_coe]
  unfold sp
  rw [zero_sub]
  rfl

variable (V : Valuation τ sig (Elt Ideal))

/-- The arguments a valuation holds. -/
def argsIn : Args where
  u := V (Proc.devRef .tc main_arg0)
  zg := V (Proc.devRef .tc main_arg1)
  rw := V (Proc.devRef .tc main_arg2)
  bias := V (Proc.devRef .tc main_arg3)
  alog := V (Proc.devRef .tc main_arg4)
  skip := V (Proc.devRef .tc main_arg5)
  gain := V (Proc.devRef .tc main_arg6)

/-! ## The slices of the arguments -/

theorem z_at (b : Fin 4) (s : Fin 4096) (q : Fin 2048) :
    StableHlo.after hostOps0 V (Proc.devRef .tc main_v1) (ix3 b s q) = (argsIn V).zg (ix2 (rowOf b.val s.val) ⟨q.val, by omega⟩) := by
  entry_read
  try simp only [StableHlo.TRef.toBuf, StableHlo.TRef.ofBuf, cast_eq]
  pointwise
  rw [row_eq]
  rfl

theorem xs_at (b : Fin 4) (s : Fin 4096) (h : Fin 32) (p : Fin 64) :
    StableHlo.after hostOps0 V (Proc.devRef .tc main_v8) (ix4 b s h p) = (argsIn V).u (ix2 (rowOf b.val s.val) ⟨h.val * 64 + p.val, by omega⟩) := by
  entry_read
  try simp only [StableHlo.TRef.toBuf, StableHlo.TRef.ofBuf, cast_eq]
  pointwise
  rw [row_eq]
  rfl

theorem bm_at (b : Fin 4) (s : Fin 4096) (g : Fin 4) (n : Fin 128) :
    StableHlo.after hostOps0 V (Proc.devRef .tc main_v9) (ix4 b s g n) = (argsIn V).u (ix2 (rowOf b.val s.val) ⟨2048 + (g.val * 128 + n.val), by omega⟩) := by
  entry_read
  try simp only [StableHlo.TRef.toBuf, StableHlo.TRef.ofBuf, cast_eq]
  pointwise
  rw [row_eq]
  rfl

theorem cm_at (b : Fin 4) (s : Fin 4096) (g : Fin 4) (n : Fin 128) :
    StableHlo.after hostOps0 V (Proc.devRef .tc main_v10) (ix4 b s g n) = (argsIn V).u (ix2 (rowOf b.val s.val) ⟨2560 + (g.val * 128 + n.val), by omega⟩) := by
  entry_read
  try simp only [StableHlo.TRef.toBuf, StableHlo.TRef.ofBuf, cast_eq]
  pointwise
  rw [row_eq]
  rfl

theorem raw_at (b : Fin 4) (s : Fin 4096) (h : Fin 32) :
    StableHlo.after hostOps0 V (Proc.devRef .tc main_v13) (ix3 b s h)
      = ((argsIn V).rw (ix2 (rowOf b.val s.val) ⟨4224 + h.val, by omega⟩) + (argsIn V).bias (ix1 h) : EReal) := by
  entry_read
  try simp only [StableHlo.TRef.toBuf, StableHlo.TRef.ofBuf, cast_eq]
  pointwise
  rw [row_eq]
  rfl

/-! ## The step sizes -/

theorem dt_stage (b : Fin 4) (s : Fin 4096) (h : Fin 32) (r : ℝ) (hr : V (Proc.devRef .tc main_v13) (ix3 b s h) = (r : EReal)) :
    StableHlo.after hostOps0_1 V (Proc.devRef .tc main_v14) (ix3 b s h) = (spR r : EReal) := by
  entry_read
  try simp only [StableHlo.TRef.toBuf, StableHlo.TRef.ofBuf, cast_eq]
  pointwise
  exact ref_sp _ r hr

/-! ## The chunked operands -/

theorem decay_stage (b : Fin 4) (c l : Fin 64) (g : Fin 4) (j : Fin 8) (d e : ℝ)
    (hd : V (Proc.devRef .tc main_v14) (ix3 b ⟨c.val * 64 + l.val, by omega⟩ ⟨g.val * 8 + j.val, by omega⟩) = (d : EReal))
    (he : V (Proc.devRef .tc main_arg4) (ix1 ⟨g.val * 8 + j.val, by omega⟩) = (e : EReal)) :
    StableHlo.after hostOps0_2 V (Proc.devRef .tc main_v26) (ix5 b c l g j) = ((d * -Real.exp e : ℝ) : EReal) := by
  entry_read
  try simp only [StableHlo.TRef.toBuf, StableHlo.TRef.ofBuf, cast_eq]
  pointwise
  refine (congrArg₂ (fun v w : EReal => v * -Ideal.exp w) hd he).trans ?_
  rw [Ideal.exp_coe, ← EReal.coe_neg, ← EReal.coe_mul]

theorem wx_stage (b : Fin 4) (c l : Fin 64) (g : Fin 4) (j : Fin 8) (p : Fin 64) (x d : ℝ)
    (hx : V (Proc.devRef .tc main_v8) (ix4 b ⟨c.val * 64 + l.val, by omega⟩ ⟨g.val * 8 + j.val, by omega⟩ p) = (x : EReal))
    (hd : V (Proc.devRef .tc main_v14) (ix3 b ⟨c.val * 64 + l.val, by omega⟩ ⟨g.val * 8 + j.val, by omega⟩) = (d : EReal)) :
    StableHlo.after hostOps0_2 V (Proc.devRef .tc main_v23) (ix6 b c l g j p) = ((d * x : ℝ) : EReal) := by
  entry_read
  try simp only [StableHlo.TRef.toBuf, StableHlo.TRef.ofBuf, cast_eq]
  pointwise
  refine (congrArg₂ (fun v w : EReal => v * w) hx hd).trans ?_
  rw [← EReal.coe_mul, mul_comm]

theorem b_stage (b : Fin 4) (c l : Fin 64) (g : Fin 4) (n : Fin 128) :
    StableHlo.after hostOps0_2 V (Proc.devRef .tc main_v24) (ix5 b c l g n) = V (Proc.devRef .tc main_v9) (ix4 b ⟨c.val * 64 + l.val, by omega⟩ g n) := by
  entry_read
  try simp only [StableHlo.TRef.toBuf, StableHlo.TRef.ofBuf, cast_eq]
  pointwise

theorem c_stage (b : Fin 4) (c l : Fin 64) (g : Fin 4) (n : Fin 128) :
    StableHlo.after hostOps0_2 V (Proc.devRef .tc main_v25) (ix5 b c l g n) = V (Proc.devRef .tc main_v10) (ix4 b ⟨c.val * 64 + l.val, by omega⟩ g n) := by
  entry_read
  try simp only [StableHlo.TRef.toBuf, StableHlo.TRef.ofBuf, cast_eq]
  pointwise

/-! ## The running sums of the log decays -/

theorem cum_stage (b : Fin 4) (c l : Fin 64) (g : Fin 4) (j : Fin 8) (f : ℕ → ℝ)
    (hf : ∀ s : Fin 64, V (Proc.devRef .tc main_v26) (ix5 b c s g j) = ((f s.val : ℝ) : EReal)) :
    StableHlo.after hostOps0_3 V (Proc.devRef .tc main_v27) (ix5 b c l g j) = ((∑ s ∈ Finset.range (l.val + 1), f s : ℝ) : EReal) := by
  entry_read
  try simp only [StableHlo.TRef.toBuf, StableHlo.TRef.ofBuf, cast_eq]
  refine cumsum_at _ _ ?_ b c l g j f hf
  pointwise

/-! ## Within a chunk, and what a chunk leaves -/

/-- The mask of the lower triangle as an integer comparison. -/
theorem mask_at (l s : Fin 64) : IntOp.cmpi CmpIPredicate.sge (IntOp.addi (BitVec.ofNat 32 l.val) 0#32) (BitVec.ofNat 32 s.val) = if s ≤ l then 1#1 else 0#1 := by
  revert l s
  decide +kernel

theorem ofBits_neg_inf : Ideal.ofBits FTy.f32 4286578688#32 = (⊥ : EReal) := by
  simp [Ideal.ofBits, Ideal.ieee]

theorem diag_sum (l : Fin 64) (X A : Fin 64 → EReal) (M : Fin 64 → Fin 128 → EReal) (N : Fin 128 → EReal) (w a : ℕ → ℝ) (B : ℕ → Fin 128 → ℝ) (C : Fin 128 → ℝ)
    (hw : ∀ s : Fin 64, X s = (w s.val : EReal)) (ha : ∀ s : Fin 64, A s = (a s.val : EReal))
    (hB : ∀ (s : Fin 64) n, M s n = (B s.val n : EReal)) (hC : ∀ n, N n = (C n : EReal)) :
    ∑ x : Fin 64, X x * ((∑ n, M x n * N n)
        * Ideal.exp (Scalar.select (Scalar.select (if x ≤ l then 1#1 else 0#1) 1#1 0#1) (A l - A x) (⊥ : EReal)))
      = ((∑ s ∈ Finset.range (l.val + 1), w s * ((∑ n, B s n * C n) * Real.exp (a l.val - a s)) : ℝ) : EReal) := by
  rw [← sum_upto (fun s => w s * ((∑ n, B s n * C n) * Real.exp (a l.val - a s))) l, ← coe_sum]
  refine Finset.sum_congr rfl fun x _ => ?_
  by_cases h : x ≤ l
  · rw [if_pos h, if_pos h, hw, ha, ha, Finset.sum_congr rfl fun n _ => congrArg₂ (· * ·) (hB x n) (hC n)]
    show _ * (_ * Ideal.exp ((a l.val : EReal) - (a x.val : EReal))) = _
    rw [← EReal.coe_sub, Ideal.exp_coe, Finset.sum_congr rfl fun n _ => (EReal.coe_mul (B x.val n) (C n)).symm, coe_sum, ← EReal.coe_mul, ← EReal.coe_mul]
  · rw [if_neg h, if_neg h]
    show _ * (_ * Ideal.exp (⊥ : EReal)) = _
    rw [Ideal.exp_bot, mul_zero, mul_zero, EReal.coe_zero]

theorem leave_sum (X A M : Fin 64 → EReal) (w a B : ℕ → ℝ) (hw : ∀ s : Fin 64, X s = (w s.val : EReal)) (ha : ∀ s : Fin 64, A s = (a s.val : EReal))
    (hB : ∀ s : Fin 64, M s = (B s.val : EReal)) :
    ∑ x : Fin 64, X x * Ideal.exp (A 63 - A x) * M x = ((∑ s ∈ Finset.range 64, w s * Real.exp (a 63 - a s) * B s : ℝ) : EReal) := by
  rw [← coe_sum, ← Fin.sum_univ_eq_sum_range (fun s => ((w s * Real.exp (a 63 - a s) * B s : ℝ) : EReal)) 64]
  refine Finset.sum_congr rfl fun x _ => ?_
  rw [hw, ha, ha, hB, ← EReal.coe_sub, Ideal.exp_coe, ← EReal.coe_mul, ← EReal.coe_mul]
  rfl

/-- The lists between the running sums and the chunk states. -/
abbrev mid : List (HloOp τ sig (Elt Ideal)) := hostOps0_4 ++ hostOps0_5 ++ hostOps0_6 ++ hostOps0_7 ++ hostOps0_8

theorem diag_stage (b : Fin 4) (c l : Fin 64) (g : Fin 4) (j : Fin 8) (p : Fin 64) (w a : ℕ → ℝ) (B C : ℕ → Fin 128 → ℝ)
    (hw : ∀ s : Fin 64, V (Proc.devRef .tc main_v23) (ix6 b c s g j p) = (w s.val : EReal))
    (ha : ∀ s : Fin 64, V (Proc.devRef .tc main_v27) (ix5 b c s g j) = (a s.val : EReal))
    (hB : ∀ (s : Fin 64) n, V (Proc.devRef .tc main_v24) (ix5 b c s g n) = (B s.val n : EReal))
    (hC : ∀ (s : Fin 64) n, V (Proc.devRef .tc main_v25) (ix5 b c s g n) = (C s.val n : EReal)) :
    StableHlo.after mid V (Proc.devRef .tc main_v44) (ix6 b c l g j p)
      = ((∑ s ∈ Finset.range (l.val + 1), w s * ((∑ n, B s n * C l.val n) * Real.exp (a l.val - a s)) : ℝ) : EReal) := by
  simp only [mid, hostOps0_4, hostOps0_5, hostOps0_6, hostOps0_7, hostOps0_8, List.cons_append, List.nil_append]
  entry_read
  try simp only [StableHlo.TRef.toBuf, StableHlo.TRef.ofBuf, cast_eq]
  pointwise
  simp only [mask_at, ofBits_neg_inf]
  refine Eq.trans ?_ (diag_sum l (fun s => V (Proc.devRef .tc main_v23) (ix6 b c s g j p)) (fun s => V (Proc.devRef .tc main_v27) (ix5 b c s g j))
    (fun s n => V (Proc.devRef .tc main_v24) (ix5 b c s g n)) (fun n => V (Proc.devRef .tc main_v25) (ix5 b c l g n)) w a B (C l.val) hw ha hB (hC l))
  rfl

theorem leave_stage (b : Fin 4) (c : Fin 64) (g : Fin 4) (j : Fin 8) (p : Fin 64) (n : Fin 128) (w a : ℕ → ℝ) (B : ℕ → ℝ)
    (hw : ∀ s : Fin 64, V (Proc.devRef .tc main_v23) (ix6 b c s g j p) = (w s.val : EReal))
    (ha : ∀ s : Fin 64, V (Proc.devRef .tc main_v27) (ix5 b c s g j) = (a s.val : EReal))
    (hB : ∀ (s : Fin 64), V (Proc.devRef .tc main_v24) (ix5 b c s g n) = (B s.val : EReal)) :
    StableHlo.after hostOps0_8 V (Proc.devRef .tc main_v60_0) (ix6 c b g j p n)
      = ((∑ s ∈ Finset.range 64, w s * Real.exp (a 63 - a s) * B s : ℝ) : EReal) := by
  entry_read
  try simp only [StableHlo.TRef.toBuf, StableHlo.TRef.ofBuf, cast_eq]
  pointwise
  exact leave_sum _ _ _ w a B hw ha hB

theorem total_stage (b : Fin 4) (c : Fin 64) (g : Fin 4) (j : Fin 8) (a : ℝ)
    (ha : V (Proc.devRef .tc main_v27) (ix5 b c 63 g j) = (a : EReal)) :
    StableHlo.after hostOps0_8 V (Proc.devRef .tc main_v60_1) (ix4 c b g j) = ((Real.exp a : ℝ) : EReal) := by
  entry_read
  try simp only [StableHlo.TRef.toBuf, StableHlo.TRef.ofBuf, cast_eq]
  pointwise
  exact (congrArg Ideal.exp ha).trans (Ideal.exp_coe a)

theorem carry_stage (b : Fin 4) (g : Fin 4) (j : Fin 8) (p : Fin 64) (n : Fin 128) :
    StableHlo.after hostOps0_8 V (Proc.devRef .tc main_v60_3) (ix5 b g j p n) = (0 : EReal) := by
  entry_read
  try simp only [StableHlo.TRef.toBuf, StableHlo.TRef.ofBuf, cast_eq]
  pointwise

end Cert.ReferenceIdeal.Ssd

end
-- ==== Proof.RefEntry.lean ====
module

public import proofs.«01_k».proof.Proof.RefA

/-! The reference's values at its loop's entry, in terms of the arguments. -/

@[expose] public section

set_option maxRecDepth 16384

noncomputable section

namespace Cert.ReferenceIdeal.Ssd

open Idealize.ShloMosaic Idealize.ShloMosaic.TcCoe Idealize.SL.Sem
open Cert.ReferenceIdeal Cert.ReferenceIdeal.Gen Cert.ReferenceIdeal.Value Cert.Ssd

variable (V : Valuation τ sig (Elt Ideal))

/-- The contents after the slices, the step sizes, the chunked operands, the running sums. -/
def U1 : Valuation τ sig (Elt Ideal) := StableHlo.after hostOps0 V
def U2 : Valuation τ sig (Elt Ideal) := StableHlo.after hostOps0_1 (U1 V)
def U3 : Valuation τ sig (Elt Ideal) := StableHlo.after hostOps0_2 (U2 V)
def U4 : Valuation τ sig (Elt Ideal) := StableHlo.after hostOps0_3 (U3 V)
def U8 : Valuation τ sig (Elt Ideal) :=
  StableHlo.after hostOps0_7 (StableHlo.after hostOps0_6 (StableHlo.after hostOps0_5 (StableHlo.after hostOps0_4 (U4 V))))

theorem entry_eq : StableHlo.afterL preI V = StableHlo.after hostOps0_8 (U8 V) := rfl

theorem entry_mid : StableHlo.afterL preI V = StableHlo.after mid (U4 V) := by
  unfold mid
  rw [StableHlo.after_append, StableHlo.after_append, StableHlo.after_append, StableHlo.after_append]
  rfl

theorem keep1 {r : Ref sig .tc} (h : r ∉ hostOps0_W) : U1 V (Proc.devRef .tc r) = V (Proc.devRef .tc r) :=
  StableHlo.after_of_writes_sub hostOps0 V hostOps0_writes h
theorem keep2 {r : Ref sig .tc} (h : r ∉ hostOps0_1_W) : U2 V (Proc.devRef .tc r) = U1 V (Proc.devRef .tc r) :=
  StableHlo.after_of_writes_sub hostOps0_1 (U1 V) hostOps0_1_writes h
theorem keep3 {r : Ref sig .tc} (h : r ∉ hostOps0_2_W) : U3 V (Proc.devRef .tc r) = U2 V (Proc.devRef .tc r) :=
  StableHlo.after_of_writes_sub hostOps0_2 (U2 V) hostOps0_2_writes h
theorem keep4 {r : Ref sig .tc} (h : r ∉ hostOps0_3_W) : U4 V (Proc.devRef .tc r) = U3 V (Proc.devRef .tc r) :=
  StableHlo.after_of_writes_sub hostOps0_3 (U3 V) hostOps0_3_writes h
theorem keep8 {r : Ref sig .tc} (h : r ∉ hostOps0_4_W ++ hostOps0_5_W ++ hostOps0_6_W ++ hostOps0_7_W) : U8 V (Proc.devRef .tc r) = U4 V (Proc.devRef .tc r) := by
  simp only [List.mem_append, not_or] at h
  unfold U8
  rw [StableHlo.after_of_writes_sub hostOps0_7 _ hostOps0_7_writes h.2, StableHlo.after_of_writes_sub hostOps0_6 _ hostOps0_6_writes h.1.2,
    StableHlo.after_of_writes_sub hostOps0_5 _ hostOps0_5_writes h.1.1.2, StableHlo.after_of_writes_sub hostOps0_4 _ hostOps0_4_writes h.1.1.1]
theorem keep9 {r : Ref sig .tc} (h : r ∉ hostOps0_8_W) : StableHlo.afterL preI V (Proc.devRef .tc r) = U8 V (Proc.devRef .tc r) :=
  StableHlo.after_of_writes_sub hostOps0_8 (U8 V) hostOps0_8_writes h

/-- What no operation before the loop writes. -/
theorem keep_arg {r : Ref sig .tc} (h1 : r ∉ hostOps0_W) (h2 : r ∉ hostOps0_1_W) (h3 : r ∉ hostOps0_2_W) (h4 : r ∉ hostOps0_3_W)
    (h8 : r ∉ hostOps0_4_W ++ hostOps0_5_W ++ hostOps0_6_W ++ hostOps0_7_W) (h9 : r ∉ hostOps0_8_W) :
    StableHlo.afterL preI V (Proc.devRef .tc r) = V (Proc.devRef .tc r) :=
  (keep9 V h9).trans ((keep8 V h8).trans ((keep4 V h4).trans ((keep3 V h3).trans ((keep2 V h2).trans (keep1 V h1)))))

/-- Head `j` of group `g`. -/
def hj (g : Fin 4) (j : Fin 8) : Fin 128 := ⟨8 * g.val + j.val, by omega⟩

/-- Column `p` of head `j` of a group. -/
def cj (j : Fin 8) (p : Fin 64) : Fin 512 := ⟨64 * j.val + p.val, by omega⟩

/-- A head's log decays and weighted inputs. -/
def lag (b : ℕ) (g : Fin 4) (j : Fin 8) (s : ℕ) : ℝ := (argsIn V).D b (hj g j) s * -(argsIn V).E (hj g j)
def wgt (b : ℕ) (g : Fin 4) (j : Fin 8) (p : Fin 64) (s : ℕ) : ℝ := (argsIn V).D b (hj g j) s * (argsIn V).X b g (cj j p) s

variable (hf : (argsIn V).Finite)
include hf

theorem dt_at (b : Fin 4) (s : Fin 4096) (h : Fin 32) (i : Fin 128) (hi : i.val = h.val) :
    U2 V (Proc.devRef .tc main_v14) (ix3 b s h) = (((argsIn V).D b.val i s.val : ℝ) : EReal) := by
  refine (dt_stage (U1 V) b s h _ ((raw_at V b s h).trans ((congrArg₂ (fun v w : EReal => v + w)
    (hf.rw (rowOf b.val s.val) ⟨4224 + h.val, by omega⟩ (by simp) (by simp; omega)) (hf.bias h)).trans (EReal.coe_add _ _).symm))).trans ?_
  unfold Args.D
  have hm : i.val % 32 = h.val := by omega
  simp only [hi, Nat.mod_eq_of_lt h.isLt]

theorem decay_at (b : Fin 4) (c l : Fin 64) (g : Fin 4) (j : Fin 8) :
    U3 V (Proc.devRef .tc main_v26) (ix5 b c l g j) = ((lag V b.val g j (c.val * 64 + l.val) : ℝ) : EReal) := by
  refine (decay_stage (U2 V) b c l g j _ _ (dt_at V hf b _ _ (hj g j) (by show 8 * g.val + j.val = g.val * 8 + j.val; omega))
    ((congrFun ((keep2 V (r := main_arg4) (by decide)).trans (keep1 V (by decide))) _).trans (hf.alog ⟨g.val * 8 + j.val, by omega⟩))).trans ?_
  unfold lag Args.E
  have hm : (hj g j).val % 32 = g.val * 8 + j.val := by show (8 * g.val + j.val) % 32 = _; omega
  simp only [hm]

theorem wgt_at (b : Fin 4) (c l : Fin 64) (g : Fin 4) (j : Fin 8) (p : Fin 64) :
    U3 V (Proc.devRef .tc main_v23) (ix6 b c l g j p) = ((wgt V b.val g j p (c.val * 64 + l.val) : ℝ) : EReal) := by
  refine (wx_stage (U2 V) b c l g j p _ _ ((congrFun (keep2 V (r := main_v8) (by decide)) _).trans ((xs_at V b _ _ p).trans (hf.u _ _)))
    (dt_at V hf b _ _ (hj g j) (by show 8 * g.val + j.val = g.val * 8 + j.val; omega))).trans ?_
  unfold wgt Args.X
  have hm : 512 * g.val + (cj j p).val = (g.val * 8 + j.val) * 64 + p.val := by show 512 * g.val + (64 * j.val + p.val) = _; omega
  simp only [hm]

theorem inB_at (b : Fin 4) (c l : Fin 64) (g : Fin 4) (n : Fin 128) :
    U3 V (Proc.devRef .tc main_v24) (ix5 b c l g n) = (((argsIn V).B b.val g (c.val * 64 + l.val) n : ℝ) : EReal) := by
  refine (b_stage (U2 V) b c l g n).trans ((congrFun (keep2 V (r := main_v9) (by decide)) _).trans ((bm_at V b _ g n).trans ((hf.u _ _).trans ?_)))
  unfold Args.B
  have hm : 2048 + (g.val * 128 + n.val) = 2048 + 128 * g.val + n.val := by omega
  simp only [hm]

theorem inC_at (b : Fin 4) (c l : Fin 64) (g : Fin 4) (n : Fin 128) :
    U3 V (Proc.devRef .tc main_v25) (ix5 b c l g n) = (((argsIn V).C b.val g (c.val * 64 + l.val) n : ℝ) : EReal) := by
  refine (c_stage (U2 V) b c l g n).trans ((congrFun (keep2 V (r := main_v10) (by decide)) _).trans ((cm_at V b _ g n).trans ((hf.u _ _).trans ?_)))
  unfold Args.C
  have hm : 2560 + (g.val * 128 + n.val) = 2560 + 128 * g.val + n.val := by omega
  simp only [hm]

/-- The log decays summed from the chunk's start through its token `l`. -/
def cum (b : ℕ) (g : Fin 4) (j : Fin 8) (c l : ℕ) : ℝ := pre (lag V b g j) (c * 64 + (l + 1)) - pre (lag V b g j) (c * 64)

theorem cum_at (b : Fin 4) (c l : Fin 64) (g : Fin 4) (j : Fin 8) :
    U4 V (Proc.devRef .tc main_v27) (ix5 b c l g j) = ((cum V b.val g j c.val l.val : ℝ) : EReal) := by
  refine (cum_stage (U3 V) b c l g j (fun s => lag V b.val g j (c.val * 64 + s)) (fun s => decay_at V hf b c s g j)).trans ?_
  rw [pre_diff]
  rfl

/-! ## At the loop's entry -/

theorem entry_cum (b : Fin 4) (c l : Fin 64) (g : Fin 4) (j : Fin 8) :
    StableHlo.afterL preI V (Proc.devRef .tc main_v27) (ix5 b c l g j) = ((cum V b.val g j c.val l.val : ℝ) : EReal) :=
  (congrFun ((keep9 V (by decide)).trans (keep8 V (by decide))) _).trans (cum_at V hf b c l g j)

theorem entry_C (b : Fin 4) (c l : Fin 64) (g : Fin 4) (n : Fin 128) :
    StableHlo.afterL preI V (Proc.devRef .tc main_v25) (ix5 b c l g n) = (((argsIn V).C b.val g (c.val * 64 + l.val) n : ℝ) : EReal) :=
  (congrFun ((keep9 V (by decide)).trans ((keep8 V (by decide)).trans (keep4 V (by decide)))) _).trans (inC_at V hf b c l g n)

theorem entry_diag (b : Fin 4) (c l : Fin 64) (g : Fin 4) (j : Fin 8) (p : Fin 64) :
    StableHlo.afterL preI V (Proc.devRef .tc main_v44) (ix6 b c l g j p)
      = ((∑ s ∈ Finset.range (l.val + 1), wgt V b.val g j p (c.val * 64 + s) * ((∑ n, (argsIn V).B b.val g (c.val * 64 + s) n * (argsIn V).C b.val g (c.val * 64 + l.val) n)
          * Real.exp (cum V b.val g j c.val l.val - cum V b.val g j c.val s)) : ℝ) : EReal) := by
  rw [entry_mid]
  exact diag_stage (U4 V) b c l g j p (fun s => wgt V b.val g j p (c.val * 64 + s)) (fun s => cum V b.val g j c.val s)
    (fun s n => (argsIn V).B b.val g (c.val * 64 + s) n) (fun s n => (argsIn V).C b.val g (c.val * 64 + s) n)
    (fun s => (congrFun (keep4 V (by decide)) _).trans (wgt_at V hf b c s g j p)) (fun s => cum_at V hf b c s g j)
    (fun s n => (congrFun (keep4 V (by decide)) _).trans (inB_at V hf b c s g n)) (fun s n => (congrFun (keep4 V (by decide)) _).trans (inC_at V hf b c s g n))

theorem entry_leave (b : Fin 4) (c : Fin 64) (g : Fin 4) (j : Fin 8) (p : Fin 64) (n : Fin 128) :
    StableHlo.afterL preI V (Proc.devRef .tc main_v60_0) (ix6 c b g j p n)
      = ((∑ s ∈ Finset.range 64, wgt V b.val g j p (c.val * 64 + s) * Real.exp (cum V b.val g j c.val 63 - cum V b.val g j c.val s) * (argsIn V).B b.val g (c.val * 64 + s) n : ℝ) : EReal) := by
  rw [entry_eq]
  exact leave_stage (U8 V) b c g j p n (fun s => wgt V b.val g j p (c.val * 64 + s)) (fun s => cum V b.val g j c.val s)
    (fun s => (argsIn V).B b.val g (c.val * 64 + s) n)
    (fun s => (congrFun ((keep8 V (by decide)).trans (keep4 V (by decide))) _).trans (wgt_at V hf b c s g j p))
    (fun s => (congrFun (keep8 V (by decide)) _).trans (cum_at V hf b c s g j))
    (fun s => (congrFun ((keep8 V (by decide)).trans (keep4 V (by decide))) _).trans (inB_at V hf b c s g n))

theorem entry_total (b : Fin 4) (c : Fin 64) (g : Fin 4) (j : Fin 8) :
    StableHlo.afterL preI V (Proc.devRef .tc main_v60_1) (ix4 c b g j) = ((Real.exp (cum V b.val g j c.val 63) : ℝ) : EReal) := by
  rw [entry_eq]
  exact total_stage (U8 V) b c g j _ ((congrFun (keep8 V (by decide)) _).trans (cum_at V hf b c 63 g j))

omit hf in
theorem entry_carry (b g : Fin 4) (j : Fin 8) (p : Fin 64) (n : Fin 128) :
    StableHlo.afterL preI V (Proc.devRef .tc main_v60_3) (ix5 b g j p n) = (0 : EReal) := by
  rw [entry_eq]
  exact carry_stage (U8 V) b g j p n

omit hf in
theorem entry_x (b : Fin 4) (s : Fin 4096) (h : Fin 32) (p : Fin 64) :
    StableHlo.afterL preI V (Proc.devRef .tc main_v8) (ix4 b s h p) = (argsIn V).u (ix2 (rowOf b.val s.val) ⟨h.val * 64 + p.val, by omega⟩) :=
  (congrFun ((keep9 V (by decide)).trans ((keep8 V (by decide)).trans ((keep4 V (by decide)).trans ((keep3 V (by decide)).trans (keep2 V (by decide)))))) _).trans
    (xs_at V b s h p)

omit hf in
theorem entry_z (b : Fin 4) (s : Fin 4096) (q : Fin 2048) :
    StableHlo.afterL preI V (Proc.devRef .tc main_v1) (ix3 b s q) = (argsIn V).zg (ix2 (rowOf b.val s.val) ⟨q.val, by omega⟩) :=
  (congrFun ((keep9 V (by decide)).trans ((keep8 V (by decide)).trans ((keep4 V (by decide)).trans ((keep3 V (by decide)).trans (keep2 V (by decide)))))) _).trans
    (z_at V b s q)

end Cert.ReferenceIdeal.Ssd

end
-- ==== Proof.RefLoop.lean ====
module

public import proofs.«01_k».proof.Proof.RefA

/-! One trip of the reference's loop at an index. -/

@[expose] public section

set_option maxRecDepth 16384

noncomputable section

namespace Cert.ReferenceIdeal.Ssd

open Idealize.ShloMosaic Idealize.ShloMosaic.TcCoe Idealize.SL.Sem
open Cert.ReferenceIdeal Cert.ReferenceIdeal.Gen Cert.ReferenceIdeal.Value Cert.Ssd

theorem slice6 (x : S64x4x4x8x64x128.Idx → EReal) (start : Fin 6 → ℤ) (k : Fin 64) (h0 : start 0 = k.val) (hs : ∀ a : Fin 6, a ≠ 0 → start a = 0)
    (h : S64x4x4x8x64x128.Slices (fun _ => 0) S1x4x4x8x64x128) :
    Host.dynamicSlice S1x4x4x8x64x128 x start h = fun i => x (ix6 k (i 1) (i 2) (i 3) (i 4) (i 5)) := by
  funext i
  unfold Host.dynamicSlice extractStridedSlice
  refine congrArg x ?_
  funext a
  apply Fin.ext
  fin_cases a
  · have hi : (i 0).val < 1 := (i 0).isLt
    show (min (max (start 0) 0) ((64 - 1 : ℕ) : ℤ)).toNat + (i 0).val = k.val
    rw [h0]; omega
  · show (min (max (start 1) 0) ((4 - 4 : ℕ) : ℤ)).toNat + (i 1).val = (i 1).val
    rw [hs 1 (by decide)]; omega
  · show (min (max (start 2) 0) ((4 - 4 : ℕ) : ℤ)).toNat + (i 2).val = (i 2).val
    rw [hs 2 (by decide)]; omega
  · show (min (max (start 3) 0) ((8 - 8 : ℕ) : ℤ)).toNat + (i 3).val = (i 3).val
    rw [hs 3 (by decide)]; omega
  · show (min (max (start 4) 0) ((64 - 64 : ℕ) : ℤ)).toNat + (i 4).val = (i 4).val
    rw [hs 4 (by decide)]; omega
  · show (min (max (start 5) 0) ((128 - 128 : ℕ) : ℤ)).toNat + (i 5).val = (i 5).val
    rw [hs 5 (by decide)]; omega

theorem slice4 (x : S64x4x4x8.Idx → EReal) (start : Fin 4 → ℤ) (k : Fin 64) (h0 : start 0 = k.val) (hs : ∀ a : Fin 4, a ≠ 0 → start a = 0)
    (h : S64x4x4x8.Slices (fun _ => 0) S1x4x4x8) :
    Host.dynamicSlice S1x4x4x8 x start h = fun i => x (ix4 k (i 1) (i 2) (i 3)) := by
  funext i
  unfold Host.dynamicSlice extractStridedSlice
  refine congrArg x ?_
  funext a
  apply Fin.ext
  fin_cases a
  · have hi : (i 0).val < 1 := (i 0).isLt
    show (min (max (start 0) 0) ((64 - 1 : ℕ) : ℤ)).toNat + (i 0).val = k.val
    rw [h0]; omega
  · show (min (max (start 1) 0) ((4 - 4 : ℕ) : ℤ)).toNat + (i 1).val = (i 1).val
    rw [hs 1 (by decide)]; omega
  · show (min (max (start 2) 0) ((4 - 4 : ℕ) : ℤ)).toNat + (i 2).val = (i 2).val
    rw [hs 2 (by decide)]; omega
  · show (min (max (start 3) 0) ((8 - 8 : ℕ) : ℤ)).toNat + (i 3).val = (i 3).val
    rw [hs 3 (by decide)]; omega

theorem update6 (x : S64x4x4x8x64x128.Idx → EReal) (u : S1x4x4x8x64x128.Idx → EReal) (start : Fin 6 → ℤ) (k : Fin 64) (h0 : start 0 = k.val)
    (hs : ∀ a : Fin 6, a ≠ 0 → start a = 0) (h : S64x4x4x8x64x128.Slices (fun _ => 0) S1x4x4x8x64x128)
    (i : Fin 64) (b g : Fin 4) (j : Fin 8) (p : Fin 64) (n : Fin 128) :
    Host.dynamicUpdateSlice x u start h (ix6 i b g j p n) = if i = k then u (ix6 0 b g j p n) else x (ix6 i b g j p n) := by
  unfold Host.dynamicUpdateSlice updateSlice
  dsimp only
  by_cases hi : i = k
  · subst hi
    rw [if_pos rfl, dif_pos (by
      intro a
      fin_cases a
      · show (min (max (start 0) 0) ((64 - 1 : ℕ) : ℤ)).toNat ≤ i.val ∧ i.val < (min (max (start 0) 0) ((64 - 1 : ℕ) : ℤ)).toNat + 1
        rw [h0]; omega
      · show (min (max (start 1) 0) ((4 - 4 : ℕ) : ℤ)).toNat ≤ b.val ∧ b.val < (min (max (start 1) 0) ((4 - 4 : ℕ) : ℤ)).toNat + 4
        rw [hs 1 (by decide)]; omega
      · show (min (max (start 2) 0) ((4 - 4 : ℕ) : ℤ)).toNat ≤ g.val ∧ g.val < (min (max (start 2) 0) ((4 - 4 : ℕ) : ℤ)).toNat + 4
        rw [hs 2 (by decide)]; omega
      · show (min (max (start 3) 0) ((8 - 8 : ℕ) : ℤ)).toNat ≤ j.val ∧ j.val < (min (max (start 3) 0) ((8 - 8 : ℕ) : ℤ)).toNat + 8
        rw [hs 3 (by decide)]; omega
      · show (min (max (start 4) 0) ((64 - 64 : ℕ) : ℤ)).toNat ≤ p.val ∧ p.val < (min (max (start 4) 0) ((64 - 64 : ℕ) : ℤ)).toNat + 64
        rw [hs 4 (by decide)]; omega
      · show (min (max (start 5) 0) ((128 - 128 : ℕ) : ℤ)).toNat ≤ n.val ∧ n.val < (min (max (start 5) 0) ((128 - 128 : ℕ) : ℤ)).toNat + 128
        rw [hs 5 (by decide)]; omega)]
    refine congrArg u ?_
    funext a
    apply Fin.ext
    fin_cases a
    · show i.val - (min (max (start 0) 0) ((64 - 1 : ℕ) : ℤ)).toNat = 0
      rw [h0]; omega
    · show b.val - (min (max (start 1) 0) ((4 - 4 : ℕ) : ℤ)).toNat = b.val
      rw [hs 1 (by decide)]; omega
    · show g.val - (min (max (start 2) 0) ((4 - 4 : ℕ) : ℤ)).toNat = g.val
      rw [hs 2 (by decide)]; omega
    · show j.val - (min (max (start 3) 0) ((8 - 8 : ℕ) : ℤ)).toNat = j.val
      rw [hs 3 (by decide)]; omega
    · show p.val - (min (max (start 4) 0) ((64 - 64 : ℕ) : ℤ)).toNat = p.val
      rw [hs 4 (by decide)]; omega
    · show n.val - (min (max (start 5) 0) ((128 - 128 : ℕ) : ℤ)).toNat = n.val
      rw [hs 5 (by decide)]; omega
  · rw [if_neg hi, dif_neg]
    intro hh
    have e : (min (max (start 0) 0) ((64 - 1 : ℕ) : ℤ)).toNat ≤ i.val ∧ i.val < (min (max (start 0) 0) ((64 - 1 : ℕ) : ℤ)).toNat + 1 := hh 0
    rw [h0] at e
    exact hi (Fin.ext (by omega))

theorem ctr_int : ∀ k : Fin 64, (Scf.iv 0#32 1#32 k.val).toInt = k.val := by decide +kernel

variable (V : Valuation τ sig (Elt Ideal)) (k : Fin 64) (hk : V (Proc.devRef .tc main_v60_2) = fun _ => Scf.iv 0#32 1#32 k.val)
include hk

/-- The carried state after a trip: decayed by the chunk's total, plus what the chunk leaves. -/
theorem carry_step (b g : Fin 4) (j : Fin 8) (p : Fin 64) (n : Fin 128) (s e l : ℝ)
    (hs : V (Proc.devRef .tc main_v60_3) (ix5 b g j p n) = (s : EReal)) (he : V (Proc.devRef .tc main_v60_1) (ix4 k b g j) = (e : EReal))
    (hl : V (Proc.devRef .tc main_v60_0) (ix6 k b g j p n) = (l : EReal)) :
    step_main_v60_3 V (ix5 b g j p n) = ((s * e + l : ℝ) : EReal) := by
  unfold step_main_v60_3
  rw [id_eq, slice4 (V (Proc.devRef .tc main_v60_1)) _ k (by
      show (V (Proc.devRef .tc main_v60_2) _).toInt = _
      rw [hk]; exact ctr_int k) (by intro a ha; fin_cases a <;> first | exact absurd rfl ha | rfl),
    slice6 (V (Proc.devRef .tc main_v60_0)) _ k (by
      show (V (Proc.devRef .tc main_v60_2) _).toInt = _
      rw [hk]; exact ctr_int k) (by intro a ha; fin_cases a <;> first | exact absurd rfl ha | rfl)]
  pointwise
  refine (congrArg₂ (fun v w : EReal => v + w) (congrArg₂ (fun v w : EReal => v * w) hs he) hl).trans ?_
  rw [← EReal.coe_mul, ← EReal.coe_add]

/-- The stacked states after a trip: slot `k` holds the state the trip began with. -/
theorem stack_step (i : Fin 64) (b g : Fin 4) (j : Fin 8) (p : Fin 64) (n : Fin 128) :
    step_main_v60_4 V (ix6 i b g j p n)
      = if i = k then V (Proc.devRef .tc main_v60_3) (ix5 b g j p n) else V (Proc.devRef .tc main_v60_4) (ix6 i b g j p n) := by
  unfold step_main_v60_4
  rw [id_eq]
  refine (update6 (V (Proc.devRef .tc main_v60_4)) _ _ k (by
      show (V (Proc.devRef .tc main_v60_2) _).toInt = _
      rw [hk]; exact ctr_int k) (by intro a ha; fin_cases a <;> first | exact absurd rfl ha | rfl) _ i b g j p n).trans ?_
  refine if_congr Iff.rfl ?_ rfl
  pointwise

end Cert.ReferenceIdeal.Ssd

end
-- ==== Proof.RefValue.lean ====
module

public import proofs.«01_k».proof.Proof.RefEntry
public import proofs.«01_k».proof.Proof.RefLoop

/-! The reference's loop: the carried state is the recurrence's at every chunk's start. -/

@[expose] public section

set_option maxRecDepth 16384

noncomputable section

namespace Cert.ReferenceIdeal.Ssd

open Idealize.ShloMosaic Idealize.ShloMosaic.TcCoe Idealize.SL.Sem
open Cert.ReferenceIdeal Cert.ReferenceIdeal.Gen Cert.ReferenceIdeal.Value Cert.Ssd

variable (V : Valuation τ sig (Elt Ideal))

/-- The recurrence's state before chunk `k`. -/
def stR (b : ℕ) (g : Fin 4) (j : Fin 8) (p : Fin 64) (n : Fin 128) (k : ℕ) : ℝ :=
  state (lag V b g j) (wgt V b g j p) (fun s => (argsIn V).B b g s n) (k * 64)

theorem stR_succ (b : ℕ) (g : Fin 4) (j : Fin 8) (p : Fin 64) (n : Fin 128) (k : ℕ) :
    stR V b g j p n (k + 1) = stR V b g j p n k * Real.exp (cum V b g j k 63)
      + ∑ s ∈ Finset.range 64, wgt V b g j p (k * 64 + s) * Real.exp (cum V b g j k 63 - cum V b g j k s) * (argsIn V).B b g (k * 64 + s) n := by
  unfold stR cum
  rw [Nat.add_mul, Nat.one_mul, state_chunk]
  refine congrArg₂ (fun v w : ℝ => v + w) rfl (Finset.sum_congr rfl fun s _ => ?_)
  rw [sub_sub_sub_cancel_right, Nat.add_assoc]
  ring

/-- What holds before the `k`-th trip. -/
structure Before (k : ℕ) (W : Valuation τ sig (Elt Ideal)) : Prop where
  leave : W (Proc.devRef .tc main_v60_0) = StableHlo.afterL preI V (Proc.devRef .tc main_v60_0)
  total : W (Proc.devRef .tc main_v60_1) = StableHlo.afterL preI V (Proc.devRef .tc main_v60_1)
  carry : ∀ (b g : Fin 4) (j : Fin 8) (p : Fin 64) (n : Fin 128),
    W (Proc.devRef .tc main_v60_3) (ix5 b g j p n) = ((stR V b.val g j p n k : ℝ) : EReal)
  stack : ∀ (i : Fin 64), i.val < k → ∀ (b g : Fin 4) (j : Fin 8) (p : Fin 64) (n : Fin 128),
    W (Proc.devRef .tc main_v60_4) (ix6 i b g j p n) = ((stR V b.val g j p n i.val : ℝ) : EReal)

theorem before_zero : Before V 0 (StableHlo.afterL preI V) where
  leave := rfl
  total := rfl
  carry b g j p n := by
    rw [entry_carry]
    unfold stR
    rw [Nat.zero_mul, state_zero]
    rfl
  stack i hi := absurd hi (Nat.not_lt_zero _)

variable (hf : (argsIn V).Finite)
include hf

theorem before_succ (k : Fin 64) (W : Valuation τ sig (Elt Ideal)) (hk : W (Proc.devRef .tc main_v60_2) = fun _ => Scf.iv 0#32 1#32 k.val)
    (h : Before V k.val W) : Before V (k.val + 1) (STEP W) where
  leave := (STEP_main_v60_0 W).trans h.leave
  total := (STEP_main_v60_1 W).trans h.total
  carry b g j p n := by
    rw [STEP_main_v60_3]
    refine (carry_step W k hk b g j p n _ _ _ (h.carry b g j p n) ((congrFun h.total _).trans (entry_total V hf b k g j))
      ((congrFun h.leave _).trans (entry_leave V hf b k g j p n))).trans ?_
    rw [stR_succ]
  stack i hi b g j p n := by
    rw [STEP_main_v60_4]
    refine (stack_step W k hk i b g j p n).trans ?_
    by_cases e : i = k
    · rw [if_pos e, e]
      exact h.carry b g j p n
    · rw [if_neg e]
      exact h.stack i (by have : i.val ≠ k.val := fun h => e (Fin.ext h); omega) b g j p n

end Cert.ReferenceIdeal.Ssd

end
-- ==== Proof.RefPost.lean ====
module

public import proofs.«01_k».proof.Proof.RefValue

/-! What the reference leaves after its loop: every row is the recurrence's output, gated and normalised. -/

@[expose] public section

set_option maxRecDepth 16384

noncomputable section

namespace Cert.ReferenceIdeal.Ssd

open Idealize.ShloMosaic Idealize.ShloMosaic.TcCoe Idealize.SL.Sem
open Cert.ReferenceIdeal Cert.ReferenceIdeal.Gen Cert.ReferenceIdeal.Value Cert.Ssd

section Stages

variable (V : Valuation τ sig (Elt Ideal))

/-- The chunk's own part, the entering state's part and the skip term, added. -/
theorem sum_stage (b : Fin 4) (s : Fin 4096) (q : Fin 2048) (d e k x : EReal) (St C : Fin 128 → EReal)
    (c l : Fin 64) (g : Fin 4) (j : Fin 8) (p : Fin 64) (hc : c.val = s.val / 64) (hl : l.val = s.val % 64) (hg : g.val = q.val / 64 / 8)
    (hj : j.val = q.val / 64 % 8) (hp : p.val = q.val % 64)
    (hd : V (Proc.devRef .tc main_v44) (ix6 b c l g j p) = d) (hS : ∀ n, V (Proc.devRef .tc main_v60_4) (ix6 c b g j p n) = St n)
    (hC : ∀ n, V (Proc.devRef .tc main_v25) (ix5 b c l g n) = C n) (he : V (Proc.devRef .tc main_v27) (ix5 b c l g j) = e)
    (hk : V (Proc.devRef .tc main_arg5) (ix1 ⟨q.val / 64, by omega⟩) = k)
    (hx : V (Proc.devRef .tc main_v8) (ix4 b s ⟨q.val / 64, by omega⟩ p) = x) :
    StableHlo.after hostOps0_9 V (Proc.devRef .tc main_v75) (ix3 b s q) = d + (∑ n, St n * C n) * Ideal.exp e + k * x := by
  obtain rfl : c = ⟨s.val / 64, Nat.div_lt_of_lt_mul s.isLt⟩ := Fin.ext hc
  obtain rfl : l = ⟨s.val % 64, Nat.mod_lt _ (by norm_num)⟩ := Fin.ext hl
  obtain rfl : g = ⟨q.val / 64 / 8, Nat.div_lt_of_lt_mul (Nat.div_lt_of_lt_mul q.isLt)⟩ := Fin.ext hg
  obtain rfl : j = ⟨q.val / 64 % 8, Nat.mod_lt _ (by norm_num)⟩ := Fin.ext hj
  obtain rfl : p = ⟨q.val % 64, Nat.mod_lt _ (by norm_num)⟩ := Fin.ext hp
  subst hd he hk hx
  obtain rfl : St = _ := funext fun n => (hS n).symm
  obtain rfl : C = _ := funext fun n => (hC n).symm
  entry_read
  try simp only [StableHlo.TRef.toBuf, StableHlo.TRef.ofBuf, cast_eq]
  pointwise

/-- The gate. -/
theorem gate_stage (b : Fin 4) (s : Fin 4096) (q : Fin 2048) (z : ℝ) (hz : V (Proc.devRef .tc main_v1) (ix3 b s q) = (z : EReal)) :
    StableHlo.after hostOps0_10 V (Proc.devRef .tc main_v76) (ix3 b s q) = ((siluR z : ℝ) : EReal) := by
  entry_read
  try simp only [StableHlo.TRef.toBuf, StableHlo.TRef.ofBuf, cast_eq]
  pointwise
  refine Eq.trans ?_ (silu_logistic z)
  exact congrArg (fun v : EReal => v * Ideal.div 1 (1 + Ideal.exp (-v))) hz

/-- The normalised row. -/
theorem norm_stage (R : Fin 16384) (g : Fin 4) (q : Fin 512) (f : Fin 512 → EReal) (w : EReal)
    (y s : Fin 512 → EReal)
    (hy : ∀ q : Fin 512, V (Proc.devRef .tc main_v75) (ix3 ⟨R.val / 4096, by omega⟩ ⟨R.val % 4096, by omega⟩ ⟨g.val * 512 + q.val, by omega⟩) = y q)
    (hs : ∀ q : Fin 512, V (Proc.devRef .tc main_v76) (ix3 ⟨R.val / 4096, by omega⟩ ⟨R.val % 4096, by omega⟩ ⟨g.val * 512 + q.val, by omega⟩) = s q)
    (hf : ∀ q, y q * s q = f q)
    (hw : V (Proc.devRef .tc main_arg6) (ix1 ⟨512 * g.val + q.val, by omega⟩) = w) :
    StableHlo.after hostOps0_11 V (Proc.devRef .tc main_v94) (ix2 R ⟨512 * g.val + q.val, by omega⟩)
      = f q * Ideal.rsqrt (Ideal.div (∑ p, f p * f p) (Ideal.ofBits .f32 0x44000000#32) + Ideal.ofBits .f32 0x358637BD#32) * w := by
  obtain rfl : f = _ := funext fun n => (hf n).symm
  obtain rfl : y = _ := funext fun n => (hy n).symm
  obtain rfl : s = _ := funext fun n => (hs n).symm
  subst hw
  entry_read
  try simp only [StableHlo.TRef.toBuf, StableHlo.TRef.ofBuf, cast_eq]
  pointwise
  have e1 : (512 * g.val + q.val) / 512 = g.val := by omega
  have e2 : (512 * g.val + q.val) % 512 = q.val := by omega
  simp only [e1, e2]

end Stages

end Cert.ReferenceIdeal.Ssd

end
-- ==== Proof.RefFinal.lean ====
module

public import proofs.«01_k».proof.Proof.RefPost

/-! The reference's run: its result is the layer's row, its arguments are left as they were. -/

@[expose] public section

set_option maxRecDepth 16384

noncomputable section

namespace Cert.ReferenceIdeal.Ssd

open Idealize.ShloMosaic Idealize.ShloMosaic.TcCoe Idealize.SL.Sem
open Cert.ReferenceIdeal Cert.ReferenceIdeal.Gen Cert.ReferenceIdeal.Value Cert.Ssd

/-- Column `q` of a group, as column `q % 64` of its head `q / 64`. -/
theorem cj_split (q : Fin 512) : cj ⟨q.val / 64, by omega⟩ ⟨q.val % 64, by omega⟩ = q :=
  Fin.ext (by show 64 * (q.val / 64) + q.val % 64 = q.val; omega)

/-- The chunk's own part and the entering state's part are the recurrence's output. -/
theorem out_parts (V : Valuation τ sig (Elt Ideal)) (b : ℕ) (g : Fin 4) (j : Fin 8) (p : Fin 64) (c l : ℕ) :
    ((∑ s ∈ Finset.range (l + 1), wgt V b g j p (c * 64 + s) * ((∑ n, (argsIn V).B b g (c * 64 + s) n * (argsIn V).C b g (c * 64 + l) n)
          * Real.exp (cum V b g j c l - cum V b g j c s)) : ℝ) : EReal)
      + (∑ n, ((stR V b g j p n c : ℝ) : EReal) * (((argsIn V).C b g (c * 64 + l) n : ℝ) : EReal)) * Ideal.exp ((cum V b g j c l : ℝ) : EReal)
      = ((out (lag V b g j) (wgt V b g j p) ((argsIn V).B b g) ((argsIn V).C b g) (c * 64 + l) : ℝ) : EReal) := by
  simp only [← EReal.coe_mul]
  rw [coe_sum, Ideal.exp_coe, ← EReal.coe_mul, ← EReal.coe_add, out_chunk]
  refine congrArg (fun v : ℝ => (v : EReal)) (congrArg₂ (fun v w : ℝ => v + w) (Finset.sum_congr rfl fun s _ => ?_) ?_)
  · unfold cum
    rw [sub_sub_sub_cancel_right, ← Nat.add_assoc, ← Nat.add_assoc]
    simp only [mul_comm ((argsIn V).B b g (c * 64 + s) _)]
    ring
  · unfold cum stR
    rw [← Nat.add_assoc]
    simp only [mul_comm (state _ _ _ _)]

/-- The references the sums write. -/
abbrev hostOps0_9_W : List (Ref sig .tc) := [main_v61, main_v62, main_v63, main_v64, main_v65, main_v66, main_v67, main_v68, main_v69, main_v70, main_v71, main_v72, main_v73, main_v74, main_v75]
theorem hostOps0_9_writes : (hostOps0_9 : List (HloOp τ sig (Elt Ideal))).Forall fun op => op.writes ⊆ (hostOps0_9_W.map (Proc.devRef (τ := τ) .tc)).toFinset :=
  StableHlo.forall_writes_sub_of_map rfl

/-- The references the gate writes. -/
abbrev hostOps0_10_W : List (Ref sig .tc) := [main_call7_v0, main_call7_v1, main_call7_cst, main_call7_v2, main_call7_v3, main_call7_cst_0, main_call7_v4, main_call7_v5, main_v76]
theorem hostOps0_10_writes : (hostOps0_10 : List (HloOp τ sig (Elt Ideal))).Forall fun op => op.writes ⊆ (hostOps0_10_W.map (Proc.devRef (τ := τ) .tc)).toFinset :=
  StableHlo.forall_writes_sub_of_map rfl

/-- The references the normalisation writes. -/
abbrev hostOps0_11_W : List (Ref sig .tc) := [main_v77, main_v78, main_v79, main_cst_3, main_v80, main_v81, main_cst_4, main_v82, main_v83, main_cst_5, main_v84, main_v85, main_v86, main_v87, main_v88, main_v89, main_v90, main_v91, main_v92, main_v93, main_v94]
theorem hostOps0_11_writes : (hostOps0_11 : List (HloOp τ sig (Elt Ideal))).Forall fun op => op.writes ⊆ (hostOps0_11_W.map (Proc.devRef (τ := τ) .tc)).toFinset :=
  StableHlo.forall_writes_sub_of_map rfl

variable (m : (ℓ : Loc nD τ sig) → Buf (Elt Ideal) ℓ) (c : Dev nD)

/-- What the loop does not write keeps its contents. -/
theorem keep_loop {r : Ref sig .tc} (hc : r ∉ condOps_W) (h0 : r ∉ while0Ops0_W) (h1 : r ∉ while0Ops0_1_W) (h2 : r ∉ while0Ops0_2_W)
    (h3 : r ∉ while0Ops0_3_W) (h4 : r ∉ while0Ops0_4_W) :
    ∀ k, atK m k c (Proc.devRef .tc r) = StableHlo.afterL preI (StableHlo.launchContents m c) (Proc.devRef .tc r)
  | 0 => rfl
  | k + 1 => by
    rw [show atK m (k + 1) c = StableHlo.afterL bodyI (StableHlo.after condOps (atK m k c)) from rfl]
    simp only [StableHlo.afterL_cons, StableHlo.afterL_nil]
    rw [StableHlo.after_of_writes_sub while0Ops0_4 _ while0Ops0_4_writes h4, StableHlo.after_of_writes_sub while0Ops0_3 _ while0Ops0_3_writes h3,
      StableHlo.after_of_writes_sub while0Ops0_2 _ while0Ops0_2_writes h2, StableHlo.after_of_writes_sub while0Ops0_1 _ while0Ops0_1_writes h1,
      StableHlo.after_of_writes_sub while0Ops0 _ while0Ops0_writes h0, StableHlo.after_of_writes_sub condOps _ condOps_writes hc]
    exact keep_loop hc h0 h1 h2 h3 h4 k

/-- The contents when the loop has ended, and the two stages after it. -/
def W0 : Valuation τ sig (Elt Ideal) := StableHlo.after condOps (atK m 64 c)
def W1 : Valuation τ sig (Elt Ideal) := StableHlo.after hostOps0_9 (W0 m c)
def W2 : Valuation τ sig (Elt Ideal) := StableHlo.after hostOps0_10 (W1 m c)

theorem final_eq : StableHlo.finalContents condOps preI bodyI postI 64 m c = StableHlo.after hostOps0_11 (W2 m c) := rfl

theorem keep_W0 {r : Ref sig .tc} (hc : r ∉ condOps_W) (h0 : r ∉ while0Ops0_W) (h1 : r ∉ while0Ops0_1_W) (h2 : r ∉ while0Ops0_2_W)
    (h3 : r ∉ while0Ops0_3_W) (h4 : r ∉ while0Ops0_4_W) :
    W0 m c (Proc.devRef .tc r) = StableHlo.afterL preI (StableHlo.launchContents m c) (Proc.devRef .tc r) :=
  (StableHlo.after_of_writes_sub condOps _ condOps_writes hc).trans (keep_loop m c hc h0 h1 h2 h3 h4 64)

theorem keep_W1 {r : Ref sig .tc} (h : r ∉ hostOps0_9_W) : W1 m c (Proc.devRef .tc r) = W0 m c (Proc.devRef .tc r) :=
  StableHlo.after_of_writes_sub hostOps0_9 _ hostOps0_9_writes h
theorem keep_W2 {r : Ref sig .tc} (h : r ∉ hostOps0_10_W) : W2 m c (Proc.devRef .tc r) = W1 m c (Proc.devRef .tc r) :=
  StableHlo.after_of_writes_sub hostOps0_10 _ hostOps0_10_writes h
theorem keep_final {r : Ref sig .tc} (h : r ∉ hostOps0_11_W) :
    StableHlo.finalContents condOps preI bodyI postI 64 m c (Proc.devRef .tc r) = W2 m c (Proc.devRef .tc r) :=
  StableHlo.after_of_writes_sub hostOps0_11 _ hostOps0_11_writes h

theorem arg_W0 {r : Ref sig .tc} (hr : r ∈ [main_arg0, main_arg1, main_arg2, main_arg3, main_arg4, main_arg5, main_arg6]) :
    W0 m c (Proc.devRef .tc r) = m ((c.tc : Thread nD τ).loc r) := by
  fin_cases hr <;>
    exact (keep_W0 m c (by decide) (by decide) (by decide) (by decide) (by decide) (by decide)).trans
      (keep_arg _ (by decide) (by decide) (by decide) (by decide) (by decide) (by decide))

/-- The arguments are left as they were. -/
theorem arg_final {r : Ref sig .tc} (hr : r ∈ [main_arg0, main_arg1, main_arg2, main_arg3, main_arg4, main_arg5, main_arg6]) :
    StableHlo.finalContents condOps preI bodyI postI 64 m c (Proc.devRef .tc r) = m ((c.tc : Thread nD τ).loc r) := by
  refine Eq.trans ?_ (arg_W0 m c hr)
  fin_cases hr <;> exact (keep_final m c (by decide)).trans ((keep_W2 m c (by decide)).trans (keep_W1 m c (by decide)))

variable (hf : (argsIn (StableHlo.launchContents m c)).Finite)
include hf

theorem before_all : ∀ k, k ≤ 64 → Before (StableHlo.launchContents m c) k (STEP^[k] (StableHlo.afterL preI (StableHlo.launchContents m c)))
  | 0, _ => before_zero _
  | k + 1, h => by
    rw [Function.iterate_succ_apply']
    refine before_succ _ hf ⟨k, h⟩ _ ?_ (before_all k (Nat.le_of_succ_le h))
    exact ((atK_agree m c k) main_v60_2 (by decide)).symm.trans (atK_ctr m c k)

/-- The stacked states when the loop has ended. -/
theorem stack_at (i : Fin 64) (b g : Fin 4) (j : Fin 8) (p : Fin 64) (n : Fin 128) :
    W0 m c (Proc.devRef .tc main_v60_4) (ix6 i b g j p n) = ((stR (StableHlo.launchContents m c) b.val g j p n i.val : ℝ) : EReal) :=
  (congrFun ((cond_keeps (atK m 64 c) main_v60_4 (by decide)).trans (atK_agree m c 64 main_v60_4 (by decide))) _).trans
    ((before_all m c hf 64 le_rfl).stack i i.isLt b g j p n)

/-- The recurrence's output with its skip term. -/
theorem sum_at (R : Fin 16384) (g : Fin 4) (q : Fin 512) :
    W1 m c (Proc.devRef .tc main_v75) (ix3 ⟨R.val / 4096, by omega⟩ ⟨R.val % 4096, by omega⟩ ⟨g.val * 512 + q.val, by omega⟩)
      = (((argsIn (StableHlo.launchContents m c)).scan (R.val / 4096) g q (R.val % 4096) : ℝ) : EReal)
        + (argsIn (StableHlo.launchContents m c)).skip (ix1 ⟨8 * g.val + q.val / 64, by omega⟩)
          * (argsIn (StableHlo.launchContents m c)).u (ix2 R ⟨512 * g.val + q.val, by omega⟩) := by
  refine (sum_stage (W0 m c) ⟨R.val / 4096, by omega⟩ ⟨R.val % 4096, by omega⟩ ⟨g.val * 512 + q.val, by omega⟩ _ _ _ _ _ _
    ⟨R.val % 4096 / 64, by omega⟩ ⟨R.val % 4096 % 64, by omega⟩ g ⟨q.val / 64, by omega⟩ ⟨q.val % 64, by omega⟩ rfl rfl
    (by show g.val = (g.val * 512 + q.val) / 64 / 8; omega) (by show q.val / 64 = (g.val * 512 + q.val) / 64 % 8; omega)
    (by show q.val % 64 = (g.val * 512 + q.val) % 64; omega)
    ((congrFun (keep_W0 m c (by decide) (by decide) (by decide) (by decide) (by decide) (by decide)) _).trans (entry_diag _ hf _ _ _ _ _ _))
    (fun n => stack_at m c hf _ _ _ _ _ n)
    (fun n => (congrFun (keep_W0 m c (by decide) (by decide) (by decide) (by decide) (by decide) (by decide)) _).trans (entry_C _ hf _ _ _ _ n))
    ((congrFun (keep_W0 m c (by decide) (by decide) (by decide) (by decide) (by decide) (by decide)) _).trans (entry_cum _ hf _ _ _ _ _))
    (congrFun (arg_W0 m c (by decide)) _)
    ((congrFun (keep_W0 m c (by decide) (by decide) (by decide) (by decide) (by decide) (by decide)) _).trans (entry_x _ _ _ _ _))).trans ?_
  refine congrArg₂ (fun v w : EReal => v + w) ((out_parts _ _ g ⟨q.val / 64, by omega⟩ ⟨q.val % 64, by omega⟩ _ _).trans ?_)
    (congrArg₂ (fun v w : EReal => v * w) ?_ ?_)
  · have e : R.val % 4096 / 64 * 64 + R.val % 4096 % 64 = R.val % 4096 := by omega
    show (((out _ _ _ _ (R.val % 4096 / 64 * 64 + R.val % 4096 % 64) : ℝ)) : EReal) = _
    rw [e]
    unfold Args.scan lag wgt
    rw [cj_split]
    rfl
  · refine congrArg (m ((c.tc : Thread nD τ).loc main_arg5)) (congrArg ix1 (Fin.ext ?_))
    show (g.val * 512 + q.val) / 64 = 8 * g.val + q.val / 64
    omega
  · refine congrArg (m ((c.tc : Thread nD τ).loc main_arg0)) (congrArg₂ ix2 (Fin.ext ?_) (Fin.ext ?_))
    · show (4096 * (R.val / 4096) + R.val % 4096) % 16384 = R.val
      omega
    · show (g.val * 512 + q.val) / 64 * 64 + q.val % 64 = 512 * g.val + q.val
      omega

theorem gate_at (R : Fin 16384) (g : Fin 4) (q : Fin 512) :
    W2 m c (Proc.devRef .tc main_v76) (ix3 ⟨R.val / 4096, by omega⟩ ⟨R.val % 4096, by omega⟩ ⟨g.val * 512 + q.val, by omega⟩)
      = ((siluR ((argsIn (StableHlo.launchContents m c)).zg (ix2 R ⟨512 * g.val + q.val, by omega⟩)).toReal : ℝ) : EReal) := by
  refine gate_stage (W1 m c) _ _ _ _ ((congrFun ((keep_W1 m c (by decide)).trans
    (keep_W0 m c (by decide) (by decide) (by decide) (by decide) (by decide) (by decide))) _).trans ((entry_z _ _ _ _).trans ?_))
  refine Eq.trans ?_ (hf.zg R ⟨512 * g.val + q.val, by omega⟩ (by show 512 * g.val + q.val < 2048; omega))
  refine congrArg (m ((c.tc : Thread nD τ).loc main_arg1)) (congrArg₂ ix2 (Fin.ext ?_) (Fin.ext ?_))
  · show (4096 * (R.val / 4096) + R.val % 4096) % 16384 = R.val
    omega
  · show g.val * 512 + q.val = 512 * g.val + q.val
    omega

/-- The reference's result. -/
theorem result_at (R : Fin 16384) (g : Fin 4) (q : Fin 512) :
    StableHlo.finalContents condOps preI bodyI postI 64 m c (Proc.devRef .tc main_v94) (ix2 R ⟨512 * g.val + q.val, by omega⟩)
      = (argsIn (StableHlo.launchContents m c)).row R g q := by
  rw [final_eq]
  exact norm_stage (W2 m c) R g q ((argsIn (StableHlo.launchContents m c)).gate R g) _ _ _
    (fun q => (congrFun (keep_W2 m c (by decide)) _).trans (sum_at m c hf R g q)) (fun q => gate_at m c hf R g q) (fun q => rfl)
    (congrFun ((keep_W2 m c (by decide)).trans ((keep_W1 m c (by decide)).trans (arg_W0 m c (by decide)))) _)

end Cert.ReferenceIdeal.Ssd

end
-- ==== Proof.Chunk.lean ====
module

public import proofs.«01_k».proof.Proof.Scalar
public import proofs.«01_k».proof.Proof.Gen.KernelIdeal.Skeleton

/-! One chunk of 128 tokens: its step sizes, log decays and the two decay tables, read at an index. -/

@[expose] public section

set_option maxRecDepth 16384

noncomputable section

namespace Cert.KernelIdeal.Ssd

open Idealize.ShloMosaic Idealize.ShloMosaic.TcCoe Idealize.SL.Sem
open Cert.KernelIdeal Cert.KernelIdeal.Gen Cert.Ssd

theorem tri_word : ∀ l k : Fin 128, IntOp.minsi (1#32)
    (IntOp.maxsi (0#32) (IntOp.addi (IntOp.subi (BitVec.ofNat 32 ↑l) (BitVec.ofNat 32 ↑k)) 1#32)) = if k ≤ l then 1#32 else 0#32 := by
  decide +kernel

theorem mask_word : ∀ l k : Fin 128,
    IntOp.cmpi CmpIPredicate.sle (BitVec.ofNat 32 ↑k) (BitVec.ofNat 32 ↑l) = if k ≤ l then 1#1 else 0#1 := by
  decide +kernel

theorem head_word : ∀ k : Fin 128, IntOp.cmpi CmpIPredicate.slt (BitVec.ofNat 32 ↑k) 64#32 = if k.val < 64 then 1#1 else 0#1 := by
  decide +kernel

theorem lane_word (k : ℕ) (hk : k < 128) :
    IntOp.cmpi CmpIPredicate.slt (BitVec.ofNat 32 k) 32#32 = if k < 32 then 1#1 else 0#1 :=
  (by decide +kernel : ∀ k : Fin 128, IntOp.cmpi CmpIPredicate.slt (BitVec.ofNat 32 ↑k) 32#32 = if k.val < 32 then 1#1 else 0#1) ⟨k, hk⟩

theorem tri_at (l k : Fin 128) : (k0_pay3 (F := Ideal)) (ix2 l k) = if k ≤ l then 1 else 0 := by
  pointwise [k0_pay3]
  rw [tri_word]
  split
  · show (((1#32 : BitVec 32).toInt : ℝ) : EReal) = 1
    norm_num
  · show (((0#32 : BitVec 32).toInt : ℝ) : EReal) = 0
    norm_num

theorem mask_at (l k : Fin 128) : k0_pay2 (ix2 l k) = if k ≤ l then 1#1 else 0#1 := by
  pointwise [k0_pay2]
  exact mask_word l k

theorem heada_at (l k : Fin 128) : k0_pay4 (ix2 l k) = if k.val < 64 then 1#1 else 0#1 := by
  pointwise [k0_pay4]
  exact head_word k

theorem dt_at (v20 : FVec Ideal S128x128 .f32) (v21 : FVec Ideal S1x128 .f32) (l j : Fin 128) :
    k0_pay5 (F := Ideal) v20 v21 (ix2 l j) = sp (v20 (ix2 l j) + v21 (ix2 0 j)) := by
  pointwise [k0_pay5, sp]
  rfl

theorem scale_at (v35 : FVec Ideal S1x128 .f32) (l j : Fin 128) :
    k0_pay6 (F := Ideal) v35 (ix2 l j) = ((-(Real.log 2)⁻¹ : ℝ) : EReal) * Ideal.exp (v35 (ix2 0 j)) := by
  pointwise [k0_pay6]
  rfl

/-- A token's log decay in the lane: step size times `-exp a_log`. -/
def la (D : Fin 128 → ℕ → ℝ) (E : Fin 128 → ℝ) (j : Fin 128) (s : ℕ) : ℝ := D j s * -E j

/-- What the chunk starting at token `T` needs of its step sizes and of the decay rates: finite values in the first 32 lanes. -/
structure Steps (D : Fin 128 → ℕ → ℝ) (E : Fin 128 → ℝ) (T : ℕ) (v34 v40 : FVec Ideal S128x128 .f32) : Prop where
  dt : ∀ l j : Fin 128, j.val < 32 → v34 (ix2 l j) = ((D j (T + l.val) : ℝ) : EReal)
  rate : ∀ l j : Fin 128, j.val < 32 → v40 (ix2 l j) = ((-(Real.log 2)⁻¹ * E j : ℝ) : EReal)

variable {D : Fin 128 → ℕ → ℝ} {E : Fin 128 → ℝ} {T : ℕ} {v34 v40 : FVec Ideal S128x128 .f32}

/-- The log decays summed within the chunk, in units of `log 2`. -/
theorem acum_at (h : Steps D E T v34 v40) (l j : Fin 128) (hj : j.val < 32) :
    k0_pay7 (F := Ideal) k0_pay3 v34 v40 (ix2 l j)
      = (((Real.log 2)⁻¹ * (pre (la D E j) (T + (l.val + 1)) - pre (la D E j) T) : ℝ) : EReal) := by
  pointwise [k0_pay7]
  have e : ∀ x : Fin 128, v34 (ix2 x j) * v40 (ix2 x j) = (((Real.log 2)⁻¹ * la D E j (T + x.val) : ℝ) : EReal) := fun x => by
    rw [h.dt x j hj, h.rate x j hj, ← EReal.coe_mul]
    congr 1
    unfold la
    ring
  simp only [tri_at, e, sub_self_coe, sub_zero, mul_zero, Finset.sum_const_zero, add_zero]
  rw [tri_sum (fun k => (Real.log 2)⁻¹ * la D E j (T + k)) l, ← Finset.mul_sum, pre_diff]

theorem select_one {α : Type} (a b : α) : Scalar.select (1#1) a b = a := rfl
theorem select_zero {α : Type} (a b : α) : Scalar.select (0#1) a b = b := rfl

/-- A table split in two on the lanes: its first 32 lanes, and zero elsewhere once the values are exact. -/
theorem two_terms (f : Fin 128 → EReal) (g : Fin 128 → ℝ) (hf : ∀ j : Fin 128, j.val < 32 → f j = (g j : EReal)) (j : Fin 128)
    (k : ℕ) (hk : k < 128) :
    Scalar.select (if j.val < 32 then 1#1 else 0#1) (f j) 0
      + (Scalar.select (if k < 32 then 1#1 else 0#1) (f ⟨k, hk⟩) 0 - Scalar.select (if k < 32 then 1#1 else 0#1) (f ⟨k, hk⟩) 0)
      = if j.val < 32 then (g j : EReal) else 0 := by
  have h0 : Scalar.select (if k < 32 then 1#1 else 0#1) (f ⟨k, hk⟩) 0
      - Scalar.select (if k < 32 then 1#1 else 0#1) (f ⟨k, hk⟩) 0 = 0 := by
    by_cases h : k < 32
    · rw [if_pos h, select_one, hf _ h, sub_self_coe]
    · rw [if_neg h, select_zero, sub_zero]
  rw [h0, add_zero]
  by_cases hj : j.val < 32
  · rw [if_pos hj, if_pos hj, select_one, hf j hj]
  · rw [if_neg hj, if_neg hj, select_zero]

/-- The decay from the chunk's start to each token. -/
theorem dec_at (h : Steps D E T v34 v40) (l j : Fin 128) :
    k0_pay10 (F := Ideal) k0_pay3 v34 v40 (ix2 l j)
      = if j.val < 32 then ((Real.exp (pre (la D E j) (T + (l.val + 1)) - pre (la D E j) T) : ℝ) : EReal) else 0 := by
  pointwise [k0_pay10]
  rw [lane_word j.val j.isLt, lane_word ((j.val + 128 - 32) % 128) (Nat.mod_lt _ (by norm_num))]
  refine two_terms (fun j => Ideal.exp2 (k0_pay7 k0_pay3 v34 v40 (ix2 l j)))
    (fun j => Real.exp (pre (la D E j) (T + (l.val + 1)) - pre (la D E j) T)) (fun j hj => ?_) j
    ((j.val + 128 - 32) % 128) (Nat.mod_lt _ (by norm_num))
  show Ideal.exp2 _ = _
  rw [acum_at h l j hj, exp2_scaled]

/-- Each token's weight in the state at the chunk's end. -/
theorem wst_at (h : Steps D E T v34 v40) (l j : Fin 128) :
    k0_pay11 (F := Ideal) k0_pay3 v34 v40 (ix2 l j)
      = if j.val < 32 then ((D j (T + l.val) * Real.exp (pre (la D E j) (T + 128) - pre (la D E j) (T + (l.val + 1))) : ℝ) : EReal)
        else 0 := by
  pointwise [k0_pay11]
  rw [lane_word j.val j.isLt, lane_word ((j.val + 128 - 32) % 128) (Nat.mod_lt _ (by norm_num))]
  refine two_terms (fun j => v34 (ix2 l j) * Ideal.exp2 (k0_pay7 k0_pay3 v34 v40 (ix2 127 j) - k0_pay7 k0_pay3 v34 v40 (ix2 l j)))
    (fun j => D j (T + l.val) * Real.exp (pre (la D E j) (T + 128) - pre (la D E j) (T + (l.val + 1)))) (fun j hj => ?_) j
    ((j.val + 128 - 32) % 128) (Nat.mod_lt _ (by norm_num))
  show _ * Ideal.exp2 _ = _
  rw [acum_at h l j hj, acum_at h 127 j hj, h.dt l j hj, ← EReal.coe_sub, ← mul_sub, exp2_scaled, ← EReal.coe_mul]
  congr 3
  show pre _ (T + (127 + 1)) - _ - _ = _
  ring

end Cert.KernelIdeal.Ssd

end
-- ==== Proof.Unit.lean ====
module

public import proofs.«01_k».proof.Proof.Chunk

/-! One group of 8 heads in one chunk: its new state and its output tile as functions of what the body loads. -/

@[expose] public section

set_option maxRecDepth 16384

noncomputable section

namespace Cert.KernelIdeal.Ssd

open Idealize.ShloMosaic Idealize.ShloMosaic.TcCoe Idealize.SL.Sem
open Cert.KernelIdeal Cert.KernelIdeal.Gen Cert.Ssd

/-- Head `n`'s masked decay matrix times the scores and the step sizes. -/
def mixU (n : ℕ) (hc : S128x128.Slices ![0, n] S128x1) (hr : S128x128.Slices ![n, 0] S1x128)
    (acum acumT dtT sc : FVec Ideal S128x128 .f32) : FVec Ideal S128x128 .bf16 :=
  truncf .bf16 (mulf (mulf sc (exp2 (select k0_pay2
    (subf (broadcastTo S128x128 (extractStridedSlice S128x1 ![0, n] acum hc) broadcasts_S128x1_S128x128)
      (broadcastTo S128x128 (extractStridedSlice S1x128 ![n, 0] acumT hr) broadcasts_S1x128_S128x128))
    (broadcast S128x128 (Scalar.ofBits .f32 0xFF800000#32)))))
    (broadcastTo S128x128 (extractStridedSlice S1x128 ![n, 0] dtT hr) broadcasts_S1x128_S128x128)) bitsLt_bf16_f32

/-- Two heads' inputs, one above the other, each zero in the other's 64 columns. -/
def x2U (o : ℕ) (h : S128x512.Slices ![0, o] S128x128) (xs : FVec Ideal S128x512 .f32) : FVec Ideal S256x128 .bf16 :=
  concatenate S256x128 0
    [⟨S128x128, select k0_pay4 (extractStridedSlice S128x128 ![0, o] (truncf .bf16 xs bitsLt_bf16_f32) h)
      (broadcast S128x128 (Scalar.truncf .bf16 bitsLt_bf16_f32 (Scalar.ofBits (F := Ideal) .f32 0x00000000#32)))⟩,
     ⟨S128x128, select k0_pay4 (broadcast S128x128 (Scalar.truncf .bf16 bitsLt_bf16_f32 (Scalar.ofBits (F := Ideal) .f32 0x00000000#32)))
      (extractStridedSlice S128x128 ![0, o] (truncf .bf16 xs bitsLt_bf16_f32) h)⟩]
    concatenates_S128x128_S128x128_S256x128_d0

/-- Two heads' outputs from within the chunk, side by side. -/
def pairU (n o : ℕ) (hc : S128x128.Slices ![0, n] S128x1) (hr : S128x128.Slices ![n, 0] S1x128)
    (hc' : S128x128.Slices ![0, n + 1] S128x1) (hr' : S128x128.Slices ![n + 1, 0] S1x128) (h : S128x512.Slices ![0, o] S128x128)
    (acum acumT dtT sc : FVec Ideal S128x128 .f32) (xs : FVec Ideal S128x512 .f32) : FVec Ideal S1x128x128 .f32 :=
  shapeCast S1x128x128 (matmul dot_S128x256_S256x128_S128x128_1_0_0_1_n_n none
    (concatenate S128x256 1 [⟨S128x128, mixU n hc hr acum acumT dtT sc⟩, ⟨S128x128, mixU (n + 1) hc' hr' acum acumT dtT sc⟩]
      concatenates_S128x128_S128x128_S128x256_d1)
    (x2U o h xs) (constant S128x128 .f32 0x00000000#32)) shapeCasts_S128x128_S1x128x128

/-- Four pairs' outputs, each in its 128 columns. -/
def tilesU (w0 w1 w2 w3 : FVec Ideal S1x128x128 .f32) : FVec Ideal S1x128x512 .f32 := fun j =>
  if (j 2).val < 128 then w0 (ix3 0 (j 1) ⟨(j 2).val % 128, Nat.mod_lt _ (by norm_num)⟩)
  else if (j 2).val < 256 then w1 (ix3 0 (j 1) ⟨(j 2).val % 128, Nat.mod_lt _ (by norm_num)⟩)
  else if (j 2).val < 384 then w2 (ix3 0 (j 1) ⟨(j 2).val % 128, Nat.mod_lt _ (by norm_num)⟩)
  else w3 (ix3 0 (j 1) ⟨(j 2).val % 128, Nat.mod_lt _ (by norm_num)⟩)

variable {D : Fin 128 → ℕ → ℝ} {E : Fin 128 → ℝ} {T : ℕ} {v34 v40 : FVec Ideal S128x128 .f32}

theorem neg_inf_exp2 : FloatOps.exp2 (Ideal.ofBits .f32 0xFF800000#32 : Ideal .f32) = (0 : EReal) := by
  rw [show (Ideal.ofBits .f32 0xFF800000#32 : Ideal .f32) = (⊥ : EReal) by simp [Ideal.ofBits, Ideal.ieee]]
  rfl

/-- Head `n`'s mixing weight of token `k` in token `l`'s output. -/
theorem mix_at (h : Steps D E T v34 v40) (n : Fin 128) (hn : n.val < 32) (hc hr) (sc : FVec Ideal S128x128 .f32) (r : ℝ)
    (l k : Fin 128) (hs : sc (ix2 l k) = (r : EReal)) :
    mixU n.val hc hr (k0_pay7 k0_pay3 v34 v40) (k0_pay8 k0_pay3 v34 v40) (k0_pay9 v34) sc (ix2 l k)
      = ((if k ≤ l then r * (Real.exp (pre (la D E n) (T + l.val + 1) - pre (la D E n) (T + k.val + 1)) * D n (T + k.val)) else 0 : ℝ) : EReal) := by
  pointwise [mixU, k0_pay8, k0_pay9]
  rw [mask_at, hs, h.dt k n hn, acum_at h l n hn, acum_at h k n hn]
  by_cases hk : k ≤ l
  · rw [if_pos hk, if_pos hk, select_one, ← EReal.coe_sub, ← mul_sub]
    show _ * Ideal.exp2 _ * _ = _
    rw [exp2_scaled, ← EReal.coe_mul, ← EReal.coe_mul]
    congr 1
    rw [mul_assoc, sub_sub_sub_cancel_right]
    rfl
  · rw [if_neg hk, if_neg hk, select_zero, neg_inf_exp2]
    simp

/-- Lane `8 g + col / 64` is the head of column `col` of group `g`. -/
def hd (g : Fin 4) (col : Fin 512) : Fin 128 := ⟨8 * g.val + col.val / 64, by omega⟩

theorem hd_lt (g : Fin 4) (col : Fin 512) : (hd g col).val < 32 := by show 8 * g.val + col.val / 64 < 32; omega

/-- Group `g`'s loads at the chunk that begins at token `T`, as real functions of the token. -/
structure Loads (g : Fin 4) (T : ℕ) (X : Fin 512 → ℕ → ℝ) (B C : ℕ → Fin 128 → ℝ) (ex : FVec Ideal S128x512 .bf16)
    (xs : FVec Ideal S128x512 .f32) (bm cm : FVec Ideal S128x128 .f32) : Prop where
  ex : ∀ (j : Fin 128) (col : Fin 512), j.val < 32 → ex (ix2 j col) = if j = hd g col then 1 else 0
  xs : ∀ (l : Fin 128) (col : Fin 512), xs (ix2 l col) = ((X col (T + l.val) : ℝ) : EReal)
  bm : ∀ l n : Fin 128, bm (ix2 l n) = ((B (T + l.val) n : ℝ) : EReal)
  cm : ∀ l n : Fin 128, cm (ix2 l n) = ((C (T + l.val) n : ℝ) : EReal)

variable {g : Fin 4} {X : Fin 512 → ℕ → ℝ} {B C : ℕ → Fin 128 → ℝ} {ex : FVec Ideal S128x512 .bf16}
  {xs : FVec Ideal S128x512 .f32} {bm cm : FVec Ideal S128x128 .f32}

/-- A sum over lanes against the lane choice keeps the column's own head. -/
theorem pick (hL : Loads g T X B C ex xs bm cm) (u : Fin 128 → EReal) (f : Fin 128 → ℝ)
    (hu : ∀ j, u j = if j.val < 32 then (f j : EReal) else 0) (col : Fin 512) :
    ∑ j, u j * ex (ix2 j col) = (f (hd g col) : EReal) := by
  rw [Finset.sum_eq_single (hd g col)]
  · rw [hu, hL.ex _ _ (hd_lt g col), if_pos (hd_lt g col), if_pos rfl, mul_one]
  · intro j _ hj
    rw [hu]
    by_cases h : j.val < 32
    · rw [hL.ex _ _ h, if_neg hj, mul_zero]
    · rw [if_neg h, zero_mul]
  · simp

theorem decx_at (h : Steps D E T v34 v40) (hL : Loads g T X B C ex xs bm cm) (l : Fin 128) (col : Fin 512) :
    k0_pay15 (k0_pay10 (F := Ideal) k0_pay3 v34 v40) ex (ix2 l col)
      = ((Real.exp (pre (la D E (hd g col)) (T + l.val + 1) - pre (la D E (hd g col)) T) : ℝ) : EReal) := by
  pointwise [k0_pay15]
  exact pick hL _ (fun j => Real.exp (pre (la D E j) (T + (l.val + 1)) - pre (la D E j) T)) (fun j => dec_at h l j) col

theorem wstx_at (h : Steps D E T v34 v40) (hL : Loads g T X B C ex xs bm cm) (l : Fin 128) (col : Fin 512) :
    ∑ j, k0_pay11 (F := Ideal) k0_pay3 v34 v40 (ix2 l j) * ex (ix2 j col)
      = ((D (hd g col) (T + l.val) * Real.exp (pre (la D E (hd g col)) (T + 128) - pre (la D E (hd g col)) (T + l.val + 1)) : ℝ) : EReal) :=
  pick hL _ (fun j => D j (T + l.val) * Real.exp (pre (la D E j) (T + 128) - pre (la D E j) (T + (l.val + 1)))) (fun j => wst_at h l j) col

/-- A head's weight of a token: its step size times its input. -/
def wt (D : Fin 128 → ℕ → ℝ) (g : Fin 4) (X : Fin 512 → ℕ → ℝ) (col : Fin 512) (s : ℕ) : ℝ := D (hd g col) s * X col s

theorem newst_at (h : Steps D E T v34 v40) (hL : Loads g T X B C ex xs bm cm) (st : FVec Ideal S1x128x512 .f32)
    (hS : ∀ (n : Fin 128) (col : Fin 512), st (ix3 0 n col)
      = ((state (la D E (hd g col)) (wt D g X col) (fun s => B s n) T : ℝ) : EReal)) (n : Fin 128) (col : Fin 512) :
    k0_pay20 (k0_pay10 (F := Ideal) k0_pay3 v34 v40) (k0_pay11 (F := Ideal) k0_pay3 v34 v40) ex xs bm st (ix3 0 n col)
      = ((state (la D E (hd g col)) (wt D g X col) (fun s => B s n) (T + 128) : ℝ) : EReal) := by
  pointwise [k0_pay20, k0_pay13, k0_pay18]
  rw [hS, decx_at h hL, state_chunk, EReal.coe_add, EReal.coe_mul, ← coe_sum, Finset.sum_range (n := 128)]
  congr 1
  refine Finset.sum_congr rfl fun k _ => ?_
  rw [wstx_at h hL, hL.xs, hL.bm, ← EReal.coe_mul, ← EReal.coe_mul]
  congr 2
  unfold wt
  ring_nf

theorem yoff_at (h : Steps D E T v34 v40) (hL : Loads g T X B C ex xs bm cm) (st : FVec Ideal S1x128x512 .f32)
    (hS : ∀ (n : Fin 128) (col : Fin 512), st (ix3 0 n col)
      = ((state (la D E (hd g col)) (wt D g X col) (fun s => B s n) T : ℝ) : EReal)) (l : Fin 128) (col : Fin 512) :
    k0_pay19 (k0_pay10 (F := Ideal) k0_pay3 v34 v40) ex cm st (ix2 l col)
      = (((∑ n, C (T + l.val) n * state (la D E (hd g col)) (wt D g X col) (fun s => B s n) T)
          * Real.exp (pre (la D E (hd g col)) (T + l.val + 1) - pre (la D E (hd g col)) T) : ℝ) : EReal) := by
  pointwise [k0_pay19, k0_pay14, k0_pay18]
  rw [decx_at h hL, EReal.coe_mul, ← coe_sum]
  congr 1
  refine Finset.sum_congr rfl fun n _ => ?_
  rw [hS, hL.cm, ← EReal.coe_mul]

theorem sc_at (hL : Loads g T X B C ex xs bm cm) (l k : Fin 128) :
    k0_pay17 (F := Ideal) bm cm (ix2 l k) = ((∑ n, C (T + l.val) n * B (T + k.val) n : ℝ) : EReal) := by
  pointwise [k0_pay17, k0_pay14, k0_pay13]
  rw [← coe_sum]
  refine Finset.sum_congr rfl fun n _ => ?_
  rw [hL.bm, hL.cm, ← EReal.coe_mul]

/-- What the chunk's own tokens add to token `l`'s output in column `col`. -/
def within (D : Fin 128 → ℕ → ℝ) (E : Fin 128 → ℝ) (g : Fin 4) (X : Fin 512 → ℕ → ℝ) (B C : ℕ → Fin 128 → ℝ) (T : ℕ) (l : Fin 128)
    (col : Fin 512) : ℝ :=
  ∑ k ∈ Finset.range (l.val + 1), (∑ n, C (T + l.val) n * B (T + k) n)
    * (Real.exp (pre (la D E (hd g col)) (T + l.val + 1) - pre (la D E (hd g col)) (T + k + 1)) * wt D g X col (T + k))

theorem head_sum (h : Steps D E T v34 v40) (hL : Loads g T X B C ex xs bm cm) (l : Fin 128) (col : Fin 512) (n : Fin 128) (hn : n = hd g col)
    (hc hr) :
    ∑ k : Fin 128, mixU n.val hc hr (k0_pay7 k0_pay3 v34 v40) (k0_pay8 k0_pay3 v34 v40) (k0_pay9 v34) (k0_pay17 bm cm) (ix2 l k)
        * xs (ix2 k col)
      = ((within D E g X B C T l col : ℝ) : EReal) := by
  subst hn
  unfold within
  rw [← sum_upto (fun k => (∑ n, C (T + l.val) n * B (T + k) n)
    * (Real.exp (pre (la D E (hd g col)) (T + l.val + 1) - pre (la D E (hd g col)) (T + k + 1)) * wt D g X col (T + k))), ← coe_sum]
  refine Finset.sum_congr rfl fun k _ => ?_
  rw [mix_at h _ (hd_lt g col) hc hr _ _ l k (sc_at hL l k), hL.xs, ← EReal.coe_mul]
  congr 1
  by_cases hk : k ≤ l
  · rw [if_pos hk, if_pos hk]
    unfold wt
    ring
  · rw [if_neg hk, if_neg hk, zero_mul]

theorem pair_at (h : Steps D E T v34 v40) (hL : Loads g T X B C ex xs bm cm) (p : Fin 4) (hc hr hc' hr' ho) (l q : Fin 128) :
    pairU (8 * g.val + 2 * p.val) (128 * p.val) hc hr hc' hr' ho (k0_pay7 k0_pay3 v34 v40) (k0_pay8 k0_pay3 v34 v40) (k0_pay9 v34)
        (k0_pay17 bm cm) xs (ix3 0 l q)
      = ((within D E g X B C T l ⟨128 * p.val + q.val, by omega⟩ : ℝ) : EReal) := by
  pointwise [pairU, x2U]
  simp only [heada_at]
  by_cases hq : q.val < 64
  · simp only [hq, if_true, select_one, Finset.sum_const_zero, add_zero]
    exact head_sum h hL l ⟨128 * p.val + q.val, by omega⟩ ⟨8 * g.val + 2 * p.val, by omega⟩
      (Fin.ext (show 8 * g.val + 2 * p.val = 8 * g.val + (128 * p.val + q.val) / 64 by omega)) hc hr
  · simp only [hq, if_false, select_zero, Finset.sum_const_zero, zero_add]
    exact head_sum h hL l ⟨128 * p.val + q.val, by omega⟩ ⟨8 * g.val + 2 * p.val + 1, by omega⟩
      (Fin.ext (show 8 * g.val + 2 * p.val + 1 = 8 * g.val + (128 * p.val + q.val) / 64 by omega)) hc' hr'

theorem slice_col (n : ℕ) (hn : n < 128) : S128x128.Slices ![0, n] S128x1 := ⟨rfl, by intro a; fin_cases a <;> simp <;> omega⟩
theorem slice_row (n : ℕ) (hn : n < 128) : S128x128.Slices ![n, 0] S1x128 := ⟨rfl, by intro a; fin_cases a <;> simp <;> omega⟩
theorem slice_tile (o : ℕ) (ho : o + 128 ≤ 512) : S128x512.Slices ![0, o] S128x128 := ⟨rfl, by intro a; fin_cases a <;> simp <;> omega⟩

/-- Group `g`'s output from within the chunk. -/
def ydU (g p : Fin 4) (acum acumT dtT sc : FVec Ideal S128x128 .f32) (xs : FVec Ideal S128x512 .f32) : FVec Ideal S1x128x128 .f32 :=
  pairU (8 * g.val + 2 * p.val) (128 * p.val) (slice_col _ (by omega)) (slice_row _ (by omega)) (slice_col _ (by omega))
    (slice_row _ (by omega)) (slice_tile _ (by omega)) acum acumT dtT sc xs

theorem tiles_at (h : Steps D E T v34 v40) (hL : Loads g T X B C ex xs bm cm) (l : Fin 128) (col : Fin 512) :
    tilesU (ydU g 0 (k0_pay7 k0_pay3 v34 v40) (k0_pay8 k0_pay3 v34 v40) (k0_pay9 v34) (k0_pay17 bm cm) xs)
      (ydU g 1 (k0_pay7 k0_pay3 v34 v40) (k0_pay8 k0_pay3 v34 v40) (k0_pay9 v34) (k0_pay17 bm cm) xs)
      (ydU g 2 (k0_pay7 k0_pay3 v34 v40) (k0_pay8 k0_pay3 v34 v40) (k0_pay9 v34) (k0_pay17 bm cm) xs)
      (ydU g 3 (k0_pay7 k0_pay3 v34 v40) (k0_pay8 k0_pay3 v34 v40) (k0_pay9 v34) (k0_pay17 bm cm) xs) (ix3 0 l col)
      = ((within D E g X B C T l col : ℝ) : EReal) := by
  have key : ∀ p : Fin 4, col.val / 128 = p.val →
      ydU g p (k0_pay7 k0_pay3 v34 v40) (k0_pay8 k0_pay3 v34 v40) (k0_pay9 v34) (k0_pay17 bm cm) xs
        (ix3 0 l ⟨col.val % 128, Nat.mod_lt _ (by norm_num)⟩) = ((within D E g X B C T l col : ℝ) : EReal) := by
    intro p hp
    refine (pair_at h hL p _ _ _ _ _ l ⟨col.val % 128, Nat.mod_lt _ (by norm_num)⟩).trans ?_
    congr 2
    exact Fin.ext (show 128 * p.val + col.val % 128 = col.val by omega)
  show (if col.val < 128 then _ else if col.val < 256 then _ else if col.val < 384 then _ else _) = _
  split_ifs with h1 h2 h3
  · exact key 0 (by show col.val / 128 = 0; omega)
  · exact key 1 (by show col.val / 128 = 1; omega)
  · exact key 2 (by show col.val / 128 = 2; omega)
  · exact key 3 (by show col.val / 128 = 3; omega)

/-- The gated, normalised value of one column, from the row's gated values. -/
def gated (y d x z : EReal) : EReal :=
  (y + d * x) * (Ideal.ofBits .f32 0x3F000000#32 * z + Ideal.ofBits .f32 0x3F000000#32 * z * Ideal.tanh (Ideal.ofBits .f32 0x3F000000#32 * z))

def normed (f : Fin 512 → EReal) (gain : EReal) (col : Fin 512) : EReal :=
  f col * Ideal.rsqrt (Ideal.div (∑ q, f q * f q) (Ideal.ofBits .f32 0x44000000#32) + Ideal.ofBits .f32 0x358637BD#32) * gain

theorem final_at (xs yv : FVec Ideal S128x512 .f32) (d : FVec Ideal S1x512 .f32) (z : FVec Ideal S128x512 .f32)
    (gain : FVec Ideal S1x512 .f32) (l : Fin 128) (col : Fin 512) :
    k0_pay34 xs yv d z gain (ix2 l col)
      = normed (fun q => gated (yv (ix2 l q)) (d (ix2 0 q)) (xs (ix2 l q)) (z (ix2 l q))) (gain (ix2 0 col)) col := by
  pointwise [k0_pay34]
  rfl

/-- Group `g`'s output before gating. -/
def sumU (g : Fin 4) (dt rate : FVec Ideal S128x128 .f32) (ex : FVec Ideal S128x512 .bf16) (xs : FVec Ideal S128x512 .f32)
    (bm cm : FVec Ideal S128x128 .f32) (st : FVec Ideal S1x128x512 .f32) : FVec Ideal S128x512 .f32 :=
  k0_pay32 (k0_pay19 (k0_pay10 k0_pay3 dt rate) ex cm st)
    (tilesU (ydU g 0 (k0_pay7 k0_pay3 dt rate) (k0_pay8 k0_pay3 dt rate) (k0_pay9 dt) (k0_pay17 bm cm) xs)
      (ydU g 1 (k0_pay7 k0_pay3 dt rate) (k0_pay8 k0_pay3 dt rate) (k0_pay9 dt) (k0_pay17 bm cm) xs)
      (ydU g 2 (k0_pay7 k0_pay3 dt rate) (k0_pay8 k0_pay3 dt rate) (k0_pay9 dt) (k0_pay17 bm cm) xs)
      (ydU g 3 (k0_pay7 k0_pay3 dt rate) (k0_pay8 k0_pay3 dt rate) (k0_pay9 dt) (k0_pay17 bm cm) xs))

/-- Before gating, the output is the recurrence's. -/
theorem sum_at (h : Steps D E T v34 v40) (hL : Loads g T X B C ex xs bm cm) (st : FVec Ideal S1x128x512 .f32)
    (hS : ∀ (n : Fin 128) (col : Fin 512), st (ix3 0 n col)
      = ((state (la D E (hd g col)) (wt D g X col) (fun s => B s n) T : ℝ) : EReal)) (l : Fin 128) (col : Fin 512) :
    sumU g v34 v40 ex xs bm cm st (ix2 l col)
      = ((out (la D E (hd g col)) (wt D g X col) B C (T + l.val) : ℝ) : EReal) := by
  pointwise [sumU, k0_pay32]
  rw [tiles_at h hL, yoff_at h hL st hS, ← EReal.coe_add, out_chunk]
  rfl

end Cert.KernelIdeal.Ssd

end
-- ==== Proof.Model.lean ====
module

public import proofs.«01_k».proof.Proof.Unit
public import Idealize.ShloMosaic.Lib.Pipeline.ValueKit
public import Idealize.ShloMosaic.Lib.Pipeline.ReadBack

/-! One grid point as a function of its blocks: 4 chunks of 4 groups, the state passed from chunk to chunk. -/

@[expose] public section

set_option maxRecDepth 16384

noncomputable section

namespace Cert.KernelIdeal.Ssd

open Idealize.ShloMosaic Idealize.ShloMosaic.TcCoe Idealize.SL.Sem
open Cert.KernelIdeal Cert.KernelIdeal.Gen Cert.Ssd

/-- The `n0 × n1` block of `X` at `(o0, o1)`. -/
def sl2 {e : EltTy} {N0 N1 : ℕ} (n0 n1 o0 o1 : ℕ) (h0 : o0 + n0 ≤ N0) (h1 : o1 + n1 ≤ N1) (X : (⟨2, ![N0, N1]⟩ : Shape).Idx → Elt Ideal e) :
    (⟨2, ![n0, n1]⟩ : Shape).Idx → Elt Ideal e :=
  fun j => X (ix2 ⟨o0 + (j 0).val, Nat.lt_of_lt_of_le (Nat.add_lt_add_left (j 0).isLt _) h0⟩
    ⟨o1 + (j 1).val, Nat.lt_of_lt_of_le (Nat.add_lt_add_left (j 1).isLt _) h1⟩)

theorem ld_sl2 {e : EltTy} {N0 N1 : ℕ} (n0 n1 o0 o1 : ℕ) (inb : ∀ a, (![o0, o1] : Fin 2 → ℕ) a + (![n0, n1] : Fin 2 → ℕ) a ≤ (⟨2, ![N0, N1]⟩ : Shape).size a)
    (X : (⟨2, ![N0, N1]⟩ : Shape).Idx → Elt Ideal e) :
    View.ld (Val := Elt Ideal) (e' := e) X (Rect.unit (s := ⟨2, ![N0, N1]⟩) ![o0, o1] ![n0, n1] inb) = sl2 n0 n1 o0 o1 (inb 0) (inb 1) X := by
  funext j
  refine View.ld_unit_apply_of (Val := Elt Ideal) (e := e) X _ _ inb j _ fun a => ?_
  fin_cases a <;> rfl

/-- Slab `g` of a stack of four. -/
def sl3 (g : Fin 4) (X : S4x128x512.Idx → Elt Ideal .f32) : S1x128x512.Idx → Elt Ideal .f32 := fun j => X (ix3 g (j 1) (j 2))

theorem ld_sl3 (g : Fin 4) (o : Fin 3 → ℕ) (ho : o = ![g.val, 0, 0]) (inb : ∀ a, o a + (![1, 128, 512] : Fin 3 → ℕ) a ≤ S4x128x512.size a)
    (X : S4x128x512.Idx → Elt Ideal .f32) :
    View.ld (Val := Elt Ideal) (e' := .f32) X (Rect.unit (s := S4x128x512) o ![1, 128, 512] inb) = sl3 g X := by
  subst ho
  funext j
  refine View.ld_unit_apply_of (Val := Elt Ideal) (e := .f32) X _ _ inb j _ fun a => ?_
  fin_cases a
  · show g.val = g.val + (j 0).val
    have := (j 0).isLt
    change (j 0).val < 1 at this
    omega
  · show (j 1).val = 0 + (j 1).val
    omega
  · show (j 2).val = 0 + (j 2).val
    omega

section Tiles

variable (c o : ℕ) (io : ∀ a, (![c, 0, o] : Fin 3 → ℕ) a + (![1, 128, 128] : Fin 3 → ℕ) a ≤ S4x128x512.size a)
  (w : S1x128x128.Idx → Elt Ideal .f32) (L : List (View.Piece (Elt Ideal) S4x128x512 .f32)) (y : S4x128x512.Idx)

theorem tile_hit (h0 : (y 0).val = c) (q : Fin 128) (hq : (y 2).val = o + q.val) :
    View.canon ((⟨Rect.unit (s := S4x128x512) ![c, 0, o] ![1, 128, 128] io, w⟩ : View.Piece (Elt Ideal) S4x128x512 .f32) :: L) y
      = w (ix3 0 (y 1) q) := by
  have h : y = (Rect.unit (s := S4x128x512) ![c, 0, o] ![1, 128, 128] io).emb (ix3 0 (y 1) q) := by
    funext a
    refine Fin.ext ((Rect.idx_unit_val _ _ io (ix3 0 (y 1) q) a).trans ?_).symm
    fin_cases a
    · exact h0.symm
    · exact Nat.zero_add _
    · exact hq.symm
  have e := View.canon_cons_emb (Val := Elt Ideal) (Rect.unit (s := S4x128x512) ![c, 0, o] ![1, 128, 128] io) w L (ix3 0 (y 1) q)
  rw [← h] at e
  exact e

theorem tile_miss (h : (y 2).val < o) :
    View.canon ((⟨Rect.unit (s := S4x128x512) ![c, 0, o] ![1, 128, 128] io, w⟩ : View.Piece (Elt Ideal) S4x128x512 .f32) :: L) y
      = View.canon L y := by
  refine View.canon_cons_of_not_mem (Val := Elt Ideal) _ L fun hm => ?_
  have h2 : o ≤ (y 2).val := (Rect.mem_set_unit (inb := io).mp hm 2).1
  omega

end Tiles

theorem yd_canon (c : ℕ)
    (i3 : ∀ a, (![c, 0, 384] : Fin 3 → ℕ) a + (![1, 128, 128] : Fin 3 → ℕ) a ≤ S4x128x512.size a)
    (i2 : ∀ a, (![c, 0, 256] : Fin 3 → ℕ) a + (![1, 128, 128] : Fin 3 → ℕ) a ≤ S4x128x512.size a)
    (i1 : ∀ a, (![c, 0, 128] : Fin 3 → ℕ) a + (![1, 128, 128] : Fin 3 → ℕ) a ≤ S4x128x512.size a)
    (i0 : ∀ a, (![c, 0, 0] : Fin 3 → ℕ) a + (![1, 128, 128] : Fin 3 → ℕ) a ≤ S4x128x512.size a)
    (w3 w2 w1 w0 : S1x128x128.Idx → Elt Ideal .f32) (L : List (View.Piece (Elt Ideal) S4x128x512 .f32)) (y : S4x128x512.Idx)
    (j : S1x128x512.Idx) (h0 : (y 0).val = c) (h1 : (y 1).val = (j 1).val) (h2 : (y 2).val = (j 2).val) :
    View.canon ((⟨Rect.unit (s := S4x128x512) ![c, 0, 384] ![1, 128, 128] i3, w3⟩ : View.Piece (Elt Ideal) S4x128x512 .f32)
        :: (⟨Rect.unit (s := S4x128x512) ![c, 0, 256] ![1, 128, 128] i2, w2⟩ : View.Piece (Elt Ideal) S4x128x512 .f32)
        :: (⟨Rect.unit (s := S4x128x512) ![c, 0, 128] ![1, 128, 128] i1, w1⟩ : View.Piece (Elt Ideal) S4x128x512 .f32)
        :: (⟨Rect.unit (s := S4x128x512) ![c, 0, 0] ![1, 128, 128] i0, w0⟩ : View.Piece (Elt Ideal) S4x128x512 .f32) :: L) y
      = tilesU w0 w1 w2 w3 j := by
  have hj2 : (j 2).val < 512 := (j 2).isLt
  have e1 : y 1 = j 1 := Fin.ext h1
  unfold tilesU
  by_cases b0 : (j 2).val < 128
  · rw [if_pos b0, tile_miss c 384 i3 w3 _ y (by omega), tile_miss c 256 i2 w2 _ y (by omega), tile_miss c 128 i1 w1 _ y (by omega),
      tile_hit c 0 i0 w0 _ y h0 ⟨(j 2).val % 128, Nat.mod_lt _ (by norm_num)⟩ (by show _ = 0 + (j 2).val % 128; omega), e1]
  rw [if_neg b0]
  by_cases b1 : (j 2).val < 256
  · rw [if_pos b1, tile_miss c 384 i3 w3 _ y (by omega), tile_miss c 256 i2 w2 _ y (by omega),
      tile_hit c 128 i1 w1 _ y h0 ⟨(j 2).val % 128, Nat.mod_lt _ (by norm_num)⟩ (by show _ = 128 + (j 2).val % 128; omega), e1]
  rw [if_neg b1]
  by_cases b2 : (j 2).val < 384
  · rw [if_pos b2, tile_miss c 384 i3 w3 _ y (by omega),
      tile_hit c 256 i2 w2 _ y h0 ⟨(j 2).val % 128, Nat.mod_lt _ (by norm_num)⟩ (by show _ = 256 + (j 2).val % 128; omega), e1]
  rw [if_neg b2, tile_hit c 384 i3 w3 _ y h0 ⟨(j 2).val % 128, Nat.mod_lt _ (by norm_num)⟩ (by show _ = 384 + (j 2).val % 128; omega), e1]

/-- Two tiles side by side. -/
def catC (a b : FVec Ideal S128x128 .bf16) : FVec Ideal S128x256 .bf16 :=
  concatenate S128x256 1 [⟨S128x128, a⟩, ⟨S128x128, b⟩] concatenates_S128x128_S128x128_S128x256_d1

theorem catC_eq (a b : FVec Ideal S128x128 .bf16) (h : Shape.Concatenates [S128x128, S128x128] S128x256 1) :
    concatenate S128x256 1 [⟨S128x128, a⟩, ⟨S128x128, b⟩] h = catC a b := rfl

/-- Two tiles one above the other. -/
def catR (a b : FVec Ideal S128x128 .bf16) : FVec Ideal S256x128 .bf16 :=
  concatenate S256x128 0 [⟨S128x128, a⟩, ⟨S128x128, b⟩] concatenates_S128x128_S128x128_S256x128_d0

theorem catR_eq (a b : FVec Ideal S128x128 .bf16) (h : Shape.Concatenates [S128x128, S128x128] S256x128 0) :
    concatenate S256x128 0 [⟨S128x128, a⟩, ⟨S128x128, b⟩] h = catR a b := rfl

/-- Four pairs' stores read back as one tile, whatever was stored before. -/
theorem yd_load {sig : RefSig} {κ : Kind} {sp : Space} (v : View sig κ sp S4x128x512 .f32) (c : ℕ)
    (i3 : ∀ a, (![c, 0, 384] : Fin 3 → ℕ) a + (![1, 128, 128] : Fin 3 → ℕ) a ≤ S4x128x512.size a)
    (i2 : ∀ a, (![c, 0, 256] : Fin 3 → ℕ) a + (![1, 128, 128] : Fin 3 → ℕ) a ≤ S4x128x512.size a)
    (i1 : ∀ a, (![c, 0, 128] : Fin 3 → ℕ) a + (![1, 128, 128] : Fin 3 → ℕ) a ≤ S4x128x512.size a)
    (i0 : ∀ a, (![c, 0, 0] : Fin 3 → ℕ) a + (![1, 128, 128] : Fin 3 → ℕ) a ≤ S4x128x512.size a)
    (i : ∀ a, (![c, 0, 0] : Fin 3 → ℕ) a + (![1, 128, 512] : Fin 3 → ℕ) a ≤ S4x128x512.size a)
    (w3 w2 w1 w0 : S1x128x128.Idx → Elt Ideal .f32) (L : List (View.Piece (Elt Ideal) S4x128x512 .f32)) :
    v.readCov (Val := Elt Ideal) ((⟨Rect.unit (s := S4x128x512) ![c, 0, 384] ![1, 128, 128] i3, w3⟩ : View.Piece (Elt Ideal) S4x128x512 .f32)
        :: (⟨Rect.unit (s := S4x128x512) ![c, 0, 256] ![1, 128, 128] i2, w2⟩ : View.Piece (Elt Ideal) S4x128x512 .f32)
        :: (⟨Rect.unit (s := S4x128x512) ![c, 0, 128] ![1, 128, 128] i1, w1⟩ : View.Piece (Elt Ideal) S4x128x512 .f32)
        :: (⟨Rect.unit (s := S4x128x512) ![c, 0, 0] ![1, 128, 128] i0, w0⟩ : View.Piece (Elt Ideal) S4x128x512 .f32) :: L)
      (Rect.unit (s := S4x128x512) ![c, 0, 0] ![1, 128, 512] i).toLoadRect = tilesU w0 w1 w2 w3 := by
  rw [View.readCov_eq_canon']
  funext j
  have hj0 : (j 0).val < 1 := (j 0).isLt
  refine yd_canon c i3 i2 i1 i0 w3 w2 w1 w0 L _ j ?_ ?_ ?_
  · show c + 1 * (j 0).val = c
    omega
  · show 0 + 1 * (j 1).val = (j 1).val
    omega
  · show 0 + 1 * (j 2).val = (j 2).val
    omega

/-- The last four stores fill the four slabs: an index is read from its slab. -/
theorem slabs_at (i3 : ∀ a, (![3, 0, 0] : Fin 3 → ℕ) a + (![1, 128, 512] : Fin 3 → ℕ) a ≤ S4x128x512.size a)
    (i2 : ∀ a, (![2, 0, 0] : Fin 3 → ℕ) a + (![1, 128, 512] : Fin 3 → ℕ) a ≤ S4x128x512.size a)
    (i1 : ∀ a, (![1, 0, 0] : Fin 3 → ℕ) a + (![1, 128, 512] : Fin 3 → ℕ) a ≤ S4x128x512.size a)
    (i0 : ∀ a, (![0, 0, 0] : Fin 3 → ℕ) a + (![1, 128, 512] : Fin 3 → ℕ) a ≤ S4x128x512.size a)
    (w3 w2 w1 w0 : S1x128x512.Idx → Elt Ideal .f32) (L : List (View.Piece (Elt Ideal) S4x128x512 .f32))
    (F : Fin 4 → S1x128x512.Idx → Elt Ideal .f32) (h3 : w3 = F 3) (h2 : w2 = F 2) (h1 : w1 = F 1) (h0 : w0 = F 0) :
    View.canon ((⟨Rect.unit (s := S4x128x512) ![3, 0, 0] ![1, 128, 512] i3, w3⟩ : View.Piece (Elt Ideal) S4x128x512 .f32)
        :: (⟨Rect.unit (s := S4x128x512) ![2, 0, 0] ![1, 128, 512] i2, w2⟩ : View.Piece (Elt Ideal) S4x128x512 .f32)
        :: (⟨Rect.unit (s := S4x128x512) ![1, 0, 0] ![1, 128, 512] i1, w1⟩ : View.Piece (Elt Ideal) S4x128x512 .f32)
        :: (⟨Rect.unit (s := S4x128x512) ![0, 0, 0] ![1, 128, 512] i0, w0⟩ : View.Piece (Elt Ideal) S4x128x512 .f32) :: L)
      = fun y => F (y 0) (ix3 0 (y 1) (y 2)) := by
  subst h3 h2 h1 h0
  have hit : ∀ (g : Fin 4) (o : Fin 3 → ℕ) (ho : o = ![g.val, 0, 0]) (io : ∀ a, o a + (![1, 128, 512] : Fin 3 → ℕ) a ≤ S4x128x512.size a)
      (M : List (View.Piece (Elt Ideal) S4x128x512 .f32)) (y : S4x128x512.Idx) (hy : y 0 = g),
      View.canon ((⟨Rect.unit (s := S4x128x512) o ![1, 128, 512] io, F g⟩ : View.Piece (Elt Ideal) S4x128x512 .f32) :: M) y
        = F (y 0) (ix3 0 (y 1) (y 2)) := by
    intro g o ho io M y hy
    subst ho
    have h : y = (Rect.unit (s := S4x128x512) ![g.val, 0, 0] ![1, 128, 512] io).emb (ix3 0 (y 1) (y 2)) := by
      funext a
      refine Fin.ext ((Rect.idx_unit_val _ _ io (ix3 0 (y 1) (y 2)) a).trans ?_).symm
      fin_cases a
      · exact (congrArg Fin.val hy).symm
      · exact Nat.zero_add _
      · exact Nat.zero_add _
    have e := View.canon_cons_emb (Val := Elt Ideal) (Rect.unit (s := S4x128x512) ![g.val, 0, 0] ![1, 128, 512] io) (F g) M (ix3 0 (y 1) (y 2))
    rw [← h] at e
    rw [hy]
    exact e
  have miss : ∀ (g : ℕ) (io : ∀ a, (![g, 0, 0] : Fin 3 → ℕ) a + (![1, 128, 512] : Fin 3 → ℕ) a ≤ S4x128x512.size a)
      (w : S1x128x512.Idx → Elt Ideal .f32)
      (M : List (View.Piece (Elt Ideal) S4x128x512 .f32)) (y : S4x128x512.Idx) (hy : (y 0).val < g),
      View.canon ((⟨Rect.unit (s := S4x128x512) ![g, 0, 0] ![1, 128, 512] io, w⟩ : View.Piece (Elt Ideal) S4x128x512 .f32) :: M) y
        = View.canon M y := by
    intro g io w M y hy
    refine View.canon_cons_of_not_mem (Val := Elt Ideal) _ M fun hm => ?_
    have h2 : g ≤ (y 0).val := (Rect.mem_set_unit (inb := io).mp hm 0).1
    omega
  funext y
  have hb : (y 0).val < 4 := (y 0).isLt
  by_cases b3 : (y 0).val = 3
  · exact hit 3 _ rfl i3 _ y (Fin.ext b3)
  rw [miss 3 i3 _ _ y (by omega)]
  by_cases b2 : (y 0).val = 2
  · exact hit 2 _ rfl i2 _ y (Fin.ext b2)
  rw [miss 2 i2 _ _ y (by omega)]
  by_cases b1 : (y 0).val = 1
  · exact hit 1 _ rfl i1 _ y (Fin.ext b1)
  rw [miss 1 i1 _ _ y (by omega)]
  exact hit 0 _ rfl i0 _ y (Fin.ext (show (y 0).val = 0 by omega))

/-- The grid point's blocks. -/
structure Blocks where
  x0 : S512x3072.Idx → Elt Ideal .f32
  x1 : S512x2048.Idx → Elt Ideal .f32
  x2 : S512x256.Idx → Elt Ideal .f32
  x3 : S1x128.Idx → Elt Ideal .f32
  x4 : S1x128.Idx → Elt Ideal .f32
  x5 : S1x2048.Idx → Elt Ideal .f32
  x6 : S1x2048.Idx → Elt Ideal .f32
  x7 : S128x2048.Idx → Elt Ideal .bf16

namespace Blocks

variable (K : Blocks)

def dt (c : Fin 4) : FVec Ideal S128x128 .f32 := k0_pay5 (sl2 128 128 (128 * c.val) 128 (by omega) (by omega) K.x2) K.x3
def rate : FVec Ideal S128x128 .f32 := k0_pay6 K.x4
def ex (g : Fin 4) : FVec Ideal S128x512 .bf16 := shapeCast S128x512 (sl2 128 512 0 (512 * g.val) (by omega) (by omega) K.x7) shapeCasts_S128x512_S128x512
def xs (c g : Fin 4) : FVec Ideal S128x512 .f32 := sl2 128 512 (128 * c.val) (512 * g.val) (by omega) (by omega) K.x0
def bm (c g : Fin 4) : FVec Ideal S128x128 .f32 := sl2 128 128 (128 * c.val) (2048 + 128 * g.val) (by omega) (by omega) K.x0
def cm (c g : Fin 4) : FVec Ideal S128x128 .f32 := sl2 128 128 (128 * c.val) (2560 + 128 * g.val) (by omega) (by omega) K.x0
def z (c g : Fin 4) : FVec Ideal S128x512 .f32 := sl2 128 512 (128 * c.val) (512 * g.val) (by omega) (by omega) K.x1
def skip (g : Fin 4) : FVec Ideal S1x512 .f32 := shapeCast S1x512 (sl2 1 512 0 (512 * g.val) (by omega) (by omega) K.x5) shapeCasts_S1x512_S1x512
def gain (g : Fin 4) : FVec Ideal S1x512 .f32 := sl2 1 512 0 (512 * g.val) (by omega) (by omega) K.x6

/-- One chunk's step of group `g`'s state. -/
def step (c g : Fin 4) (st : FVec Ideal S1x128x512 .f32) : FVec Ideal S1x128x512 .f32 :=
  k0_pay20 (k0_pay10 k0_pay3 (K.dt c) K.rate) (k0_pay11 k0_pay3 (K.dt c) K.rate) (K.ex g) (K.xs c g) (K.bm c g) st

/-- The state after the point. -/
def after (g : Fin 4) (st : FVec Ideal S1x128x512 .f32) : FVec Ideal S1x128x512 .f32 :=
  K.step 3 g (K.step 2 g (K.step 1 g (K.step 0 g st)))

/-- One chunk's output tile of group `g`. -/
def tile (c g : Fin 4) (st : FVec Ideal S1x128x512 .f32) : FVec Ideal S128x512 .bf16 :=
  k0_pay34 (K.xs c g) (sumU g (K.dt c) K.rate (K.ex g) (K.xs c g) (K.bm c g) (K.cm c g) st) (K.skip g) (K.z c g) (K.gain g)

/-- Group `g`'s state before chunk `c`. -/
def before (g : Fin 4) (st : FVec Ideal S1x128x512 .f32) : Fin 4 → FVec Ideal S1x128x512 .f32
  | 0 => st
  | 1 => K.step 0 g st
  | 2 => K.step 1 g (K.step 0 g st)
  | 3 => K.step 2 g (K.step 1 g (K.step 0 g st))

/-- The point's output from the state at its start. -/
def outp (S : S4x128x512.Idx → Elt Ideal .f32) : S512x2048.Idx → Elt Ideal .bf16 := fun y =>
  K.tile ⟨(y 0).val / 128, by have : (y 0).val < 512 := (y 0).isLt; omega⟩ ⟨(y 1).val / 512, by have : (y 1).val < 2048 := (y 1).isLt; omega⟩
    (K.before ⟨(y 1).val / 512, by have : (y 1).val < 2048 := (y 1).isLt; omega⟩
      (sl3 ⟨(y 1).val / 512, by have : (y 1).val < 2048 := (y 1).isLt; omega⟩ S)
      ⟨(y 0).val / 128, by have : (y 0).val < 512 := (y 0).isLt; omega⟩)
    (ix2 ⟨(y 0).val % 128, Nat.mod_lt _ (by norm_num)⟩ ⟨(y 1).val % 512, Nat.mod_lt _ (by norm_num)⟩)

/-- The point's state from the state at its start. -/
def next (S : S4x128x512.Idx → Elt Ideal .f32) : S4x128x512.Idx → Elt Ideal .f32 := fun y =>
  K.after (y 0) (sl3 (y 0) S) (ix3 0 (y 1) (y 2))

theorem outp_of (S : S4x128x512.Idx → Elt Ideal .f32) (c g : Fin 4) (w : FVec Ideal S128x512 .bf16)
    (hw : w = K.tile c g (K.before g (sl3 g S) c)) (x : S128x512.Idx) (y : S512x2048.Idx)
    (e0 : (y 0).val = 128 * c.val + (x 0).val) (e1 : (y 1).val = 512 * g.val + (x 1).val) : w x = K.outp S y := by
  have hx0 : (x 0).val < 128 := (x 0).isLt
  have hx1 : (x 1).val < 512 := (x 1).isLt
  unfold outp
  rw [show (⟨(y 0).val / 128, by have : (y 0).val < 512 := (y 0).isLt; omega⟩ : Fin 4) = c from Fin.ext (by show (y 0).val / 128 = _; omega),
    show (⟨(y 1).val / 512, by have : (y 1).val < 2048 := (y 1).isLt; omega⟩ : Fin 4) = g from Fin.ext (by show (y 1).val / 512 = _; omega), hw]
  congr 1
  funext a
  refine Fin.ext ?_
  fin_cases a
  · show (x 0).val = (y 0).val % 128
    omega
  · show (x 1).val = (y 1).val % 512
    omega

end Blocks

end Cert.KernelIdeal.Ssd

end
-- ==== Proof.PointState.lean ====
module

public import proofs.«01_k».proof.Proof.Model
public import proofs.«01_k».proof.Proof.Gen.KernelIdeal.Value

/-! What a grid point leaves, as the point function of its blocks. -/

@[expose] public section

set_option maxRecDepth 16384

noncomputable section

namespace Cert.KernelIdeal.Ssd

open Idealize.ShloMosaic Idealize.ShloMosaic.TcCoe Idealize.SL.Sem
open Cert.KernelIdeal Cert.KernelIdeal.Gen Cert.Ssd

variable (m : (ℓ : Loc nD τ sig) → Buf (Elt Ideal) ℓ)

/-- The blocks of grid point `t`. -/
def blocksAt (c : Dev nD) (t : Fin cfg0.N) : Blocks :=
  ⟨iblk m c 0 t, iblk m c 1 t, iblk m c 2 t, iblk m c 3 t, iblk m c 4 t, iblk m c 5 t, iblk m c 6 t, iblk m c 7 t⟩

theorem state_A (c : Dev nD) (t : Fin cfg0.N) (acc : Vec Ideal S512x2048 .bf16 × Vec Ideal S4x128x512 .f32) (h0 : t.val % 8 = 0) :
    (Value.stAt0 m c t.val t.isLt acc).2 = (blocksAt m c t).next (k0_pay1 (F := Ideal)) := by
  rw [Value.stAt0_A m c t acc h0]
  dsimp only
  frame_open
  simp (disch := decide) only [↓ View.readCov_skip, ↓ View.readCov_cons_toLoadRect, ↓ View.readCov_fill, ↓ yd_load]
  simp (disch := decide) only [View.read_writes_junk_eq_canon, View.canon_cons_unit_lit',
    View.ld_unit_lit', View.readCov_unit_lit', View.readCov_cons_unit_lit', View.readAt_eq_ld,
    Memref.IsWhole.read_unread, Idealize.ShloMosaic.read_unread_whole, ld_sl2, ld_sl3 0 ![0, 0, 0] rfl, ld_sl3 1 ![1, 0, 0] rfl,
    ld_sl3 2 ![2, 0, 0] rfl, ld_sl3 3 ![3, 0, 0] rfl]
  unfold blocksAt
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  exact slabs_at _ _ _ _ _ _ _ _ _ (fun g => (⟨x0, x1, x2, x3, x4, x5, x6, x7⟩ : Blocks).after g (sl3 g (k0_pay1 (F := Ideal)))) rfl rfl rfl rfl

theorem state_B (c : Dev nD) (t : Fin cfg0.N) (acc : Vec Ideal S512x2048 .bf16 × Vec Ideal S4x128x512 .f32) (h0 : ¬t.val % 8 = 0) :
    (Value.stAt0 m c t.val t.isLt acc).2 = (blocksAt m c t).next acc.2 := by
  rw [Value.stAt0_B m c t acc h0]
  dsimp only
  frame_open
  simp (disch := decide) only [↓ View.readCov_skip, ↓ View.readCov_cons_toLoadRect, ↓ View.readCov_fill, ↓ yd_load]
  simp (disch := decide) only [View.read_writes_junk_eq_canon, View.canon_cons_unit_lit',
    View.ld_unit_lit', View.readCov_unit_lit', View.readCov_cons_unit_lit', View.readAt_eq_ld,
    Memref.IsWhole.read_unread, Idealize.ShloMosaic.read_unread_whole, ld_sl2, ld_sl3 0 ![0, 0, 0] rfl, ld_sl3 1 ![1, 0, 0] rfl,
    ld_sl3 2 ![2, 0, 0] rfl, ld_sl3 3 ![3, 0, 0] rfl]
  unfold blocksAt
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  exact slabs_at _ _ _ _ _ _ _ _ _ (fun g => (⟨x0, x1, x2, x3, x4, x5, x6, x7⟩ : Blocks).after g (sl3 g acc.2)) rfl rfl rfl rfl

end Cert.KernelIdeal.Ssd

end
-- ==== Proof.Read.lean ====
module

public import proofs.«01_k».proof.Proof.PointState

/-! Where every block of a grid point comes from in the arguments. -/

@[expose] public section

set_option maxRecDepth 16384

noncomputable section

namespace Cert.KernelIdeal.Ssd

open Idealize.ShloMosaic Idealize.ShloMosaic.TcCoe Idealize.SL.Sem
open Cert.KernelIdeal Cert.KernelIdeal.Gen Cert.Ssd

theorem idx : ∀ t : Fin cfg0.N, win0_0.index t = ![t.val, 0] ∧ win0_1.index t = ![t.val, 0] ∧ win0_2.index t = ![t.val, 16]
    ∧ win0_3.index t = ![0, 0] ∧ win0_4.index t = ![0, 0] ∧ win0_5.index t = ![0, 0] ∧ win0_6.index t = ![0, 0] ∧ win0_7.index t = ![0, 0]
    ∧ win0_8.index t = ![t.val, 0] :=
  (by decide +kernel : ∀ t : Fin grid0.N, win0_0.index t = ![t.val, 0] ∧ win0_1.index t = ![t.val, 0] ∧ win0_2.index t = ![t.val, 16]
    ∧ win0_3.index t = ![0, 0] ∧ win0_4.index t = ![0, 0] ∧ win0_5.index t = ![0, 0] ∧ win0_6.index t = ![0, 0] ∧ win0_7.index t = ![0, 0]
    ∧ win0_8.index t = ![t.val, 0])

variable (m : (ℓ : Loc nD τ sig) → Buf (Elt Ideal) ℓ) (c : Fin nD) (t : Fin cfg0.N)

theorem iblk0 (r : Fin 512) (q : Fin 3072) (R : Fin 16384) (hR : R.val = 512 * t.val + r.val) :
    iblk m c 0 t (ix2 r q) = m ((c : Thread nD τ).loc main_arg0) (ix2 R q) := by
  blk_ext [iblk, V, idx t]

theorem iblk1 (r : Fin 512) (q : Fin 2048) (R : Fin 16384) (Q : Fin 4096) (hR : R.val = 512 * t.val + r.val) (hQ : Q.val = q.val) :
    iblk m c 1 t (ix2 r q) = m ((c : Thread nD τ).loc main_arg1) (ix2 R Q) := by
  blk_ext [iblk, V, idx t]

theorem iblk2 (r : Fin 512) (q : Fin 256) (R : Fin 16384) (Q : Fin 4608) (hR : R.val = 512 * t.val + r.val) (hQ : Q.val = 4096 + q.val) :
    iblk m c 2 t (ix2 r q) = m ((c : Thread nD τ).loc main_arg2) (ix2 R Q) := by
  blk_ext [iblk, V, idx t]

/-- The remainder by 32 of a lane below 32 is the lane. -/
theorem lane_head : ∀ j : Fin 128, j.val < 32 → (Scalar.select
            (IntOp.andi
              (IntOp.cmpi CmpIPredicate.ne
                (IntOp.cmpi CmpIPredicate.slt
                  (IntOp.remsi ArithUnit.host (BitVec.ofNat 32 j.val)
                    (Scalar.select (IntOp.cmpi CmpIPredicate.eq 32#32 0#32) 1#32 32#32))
                  0#32)
                (IntOp.cmpi CmpIPredicate.slt (Scalar.select (IntOp.cmpi CmpIPredicate.eq 32#32 0#32) 1#32 32#32) 0#32))
              (IntOp.cmpi CmpIPredicate.ne
                (IntOp.remsi ArithUnit.host (BitVec.ofNat 32 j.val)
                  (Scalar.select (IntOp.cmpi CmpIPredicate.eq 32#32 0#32) 1#32 32#32))
                0#32))
            (IntOp.addi
              (IntOp.remsi ArithUnit.host (BitVec.ofNat 32 j.val)
                (Scalar.select (IntOp.cmpi CmpIPredicate.eq 32#32 0#32) 1#32 32#32))
              (Scalar.select (IntOp.cmpi CmpIPredicate.eq 32#32 0#32) 1#32 32#32))
            (IntOp.remsi ArithUnit.host (BitVec.ofNat 32 j.val)
              (Scalar.select (IntOp.cmpi CmpIPredicate.eq 32#32 0#32) 1#32 32#32)))
    = BitVec.ofNat 32 j.val := by decide +kernel

/-- The column's head is its quotient by 64. -/
theorem col_head : ∀ q : Fin 2048, (Scalar.select
            (IntOp.andi
              (IntOp.cmpi CmpIPredicate.ne
                (if BitVec.ofNat 32 q.val = 0 then (0 : BitVec 32) else if (BitVec.ofNat 32 q.val).msb = true then -1 else 1)
                (if 64#32 = 0 then (0 : BitVec 32) else if (64#32).msb = true then -1 else 1))
              (IntOp.cmpi CmpIPredicate.ne (IntOp.remsi ArithUnit.host (BitVec.ofNat 32 q.val) 64#32) 0#32))
            (IntOp.subi (IntOp.divsi ArithUnit.host (BitVec.ofNat 32 q.val) 64#32) 1#32)
            (IntOp.divsi ArithUnit.host (BitVec.ofNat 32 q.val) 64#32))
    = BitVec.ofNat 32 (q.val / 64) := by decide +kernel

theorem lane_lt : ∀ j : Fin 128, j.val < 32 → IntOp.cmpi CmpIPredicate.slt (BitVec.ofNat 32 j.val) 64#32 = 1#1 := by decide +kernel

/-- The padded step-size biases. -/
theorem bias_at (j : Fin 128) (hj : j.val < 32) : V m c main_v17 (ix2 0 j) = m ((c : Thread nD τ).loc main_arg3) (ix1 ⟨j.val, hj⟩) := by
  simp only [V, hostOps0, hostOps0_1, hostOps0_2, hostOps0_3, hostOps0_4, hostOps0_5, hostOps0_6, hostOps0_7, hostOps0_8, List.flatten_cons, List.flatten_nil, List.cons_append, List.nil_append]
  entry_read
  try simp only [StableHlo.TRef.toBuf, StableHlo.TRef.ofBuf, cast_eq]
  pointwise
  exact dif_pos hj

/-- The padded log rates. -/
theorem alog_at (j : Fin 128) (hj : j.val < 32) : V m c main_v19 (ix2 0 j) = m ((c : Thread nD τ).loc main_arg4) (ix1 ⟨j.val, hj⟩) := by
  simp only [V, hostOps0, hostOps0_1, hostOps0_2, hostOps0_3, hostOps0_4, hostOps0_5, hostOps0_6, hostOps0_7, hostOps0_8, List.flatten_cons, List.flatten_nil, List.cons_append, List.nil_append]
  entry_read
  try simp only [StableHlo.TRef.toBuf, StableHlo.TRef.ofBuf, cast_eq]
  pointwise
  exact dif_pos hj

/-- The repeated skip weights. -/
theorem skip_at (q : Fin 2048) : V m c main_v22 (ix2 0 q) = m ((c : Thread nD τ).loc main_arg5) (ix1 ⟨q.val / 64, by omega⟩) := by
  simp only [V, hostOps0, hostOps0_1, hostOps0_2, hostOps0_3, hostOps0_4, hostOps0_5, hostOps0_6, hostOps0_7, hostOps0_8, List.flatten_cons, List.flatten_nil, List.cons_append, List.nil_append]
  entry_read
  try simp only [StableHlo.TRef.toBuf, StableHlo.TRef.ofBuf, cast_eq]
  pointwise

/-- The norm gain as a row. -/
theorem gain_at (q : Fin 2048) : V m c main_v23 (ix2 0 q) = m ((c : Thread nD τ).loc main_arg6) (ix1 q) := by
  simp only [V, hostOps0, hostOps0_1, hostOps0_2, hostOps0_3, hostOps0_4, hostOps0_5, hostOps0_6, hostOps0_7, hostOps0_8, List.flatten_cons, List.flatten_nil, List.cons_append, List.nil_append]
  entry_read
  try simp only [StableHlo.TRef.toBuf, StableHlo.TRef.ofBuf, cast_eq]
  pointwise

/-- The matrix that spreads a head's lane over its 64 columns. -/
theorem ex_at (j : Fin 128) (q : Fin 2048) (hj : j.val < 32) : V m c main_v15 (ix2 j q) = if j.val = q.val / 64 then (1 : EReal) else 0 := by
  simp only [V, hostOps0, hostOps0_1, hostOps0_2, hostOps0_3, hostOps0_4, hostOps0_5, hostOps0_6, hostOps0_7, hostOps0_8, List.flatten_cons, List.flatten_nil, List.cons_append, List.nil_append]
  entry_read
  try simp only [StableHlo.TRef.toBuf, StableHlo.TRef.ofBuf, cast_eq]
  pointwise
  refine (congrArg₂ (fun v w => FloatOps.uitofp (F := Ideal) .bf16 (IntOp.andi (IntOp.cmpi .eq v w)
    (IntOp.cmpi .slt (BitVec.ofNat 32 j.val) 64#32))) (lane_head j hj) (col_head q)).trans ?_
  rw [lane_lt j hj]
  by_cases h : j.val = q.val / 64
  · rw [if_pos h, h]
    simp [IntOp.cmpi, IntOp.andi, FloatOps.uitofp]
  · rw [if_neg h]
    have hne : BitVec.ofNat 32 j.val ≠ BitVec.ofNat 32 (q.val / 64) := fun e => h (by
      have := congrArg BitVec.toNat e
      simp only [BitVec.toNat_ofNat] at this
      omega)
    simp [IntOp.cmpi, IntOp.andi, FloatOps.uitofp, hne]
    rw [beq_false_of_ne hne]
    rfl

end Cert.KernelIdeal.Ssd

end
-- ==== Proof.Chain.lean ====
module

public import proofs.«01_k».proof.Proof.Model

/-! A grid point's output and state, when its blocks hold the layer's data from token `T` on and its start state is the recurrence's at `T`. -/

@[expose] public section

set_option maxRecDepth 16384

noncomputable section

namespace Cert.KernelIdeal.Ssd

open Idealize.ShloMosaic Idealize.ShloMosaic.TcCoe Idealize.SL.Sem
open Cert.KernelIdeal Cert.KernelIdeal.Gen Cert.Ssd

variable {D : Fin 128 → ℕ → ℝ} {E : Fin 128 → ℝ} {X : Fin 4 → Fin 512 → ℕ → ℝ} {B C : Fin 4 → ℕ → Fin 128 → ℝ} {T : ℕ} {K : Blocks}

/-- The blocks hold the data from token `T` on. -/
structure Holds (D : Fin 128 → ℕ → ℝ) (E : Fin 128 → ℝ) (X : Fin 4 → Fin 512 → ℕ → ℝ) (B C : Fin 4 → ℕ → Fin 128 → ℝ) (T : ℕ)
    (K : Blocks) : Prop where
  steps : ∀ c : Fin 4, Steps D E (T + 128 * c.val) (K.dt c) K.rate
  loads : ∀ c g : Fin 4, Loads g (T + 128 * c.val) (X g) (B g) (C g) (K.ex g) (K.xs c g) (K.bm c g) (K.cm c g)

/-- Group `g`'s state at token `T`. -/
def IsState (D : Fin 128 → ℕ → ℝ) (E : Fin 128 → ℝ) (X : Fin 4 → Fin 512 → ℕ → ℝ) (B : Fin 4 → ℕ → Fin 128 → ℝ) (T : ℕ) (g : Fin 4)
    (st : FVec Ideal S1x128x512 .f32) : Prop :=
  ∀ (n : Fin 128) (col : Fin 512), st (ix3 0 n col)
    = ((state (la D E (hd g col)) (wt D g (X g) col) (fun s => B g s n) T : ℝ) : EReal)

theorem step_at (h : Holds D E X B C T K) (c g : Fin 4) (st : FVec Ideal S1x128x512 .f32) (T' T'' : ℕ) (hT : T' = T + 128 * c.val)
    (hT'' : T'' = T + 128 * c.val + 128) (hs : IsState D E X B T' g st) : IsState D E X B T'' g (K.step c g st) := by
  subst hT hT''
  exact fun n col => newst_at (h.steps c) (h.loads c g) st hs n col

theorem before_at (h : Holds D E X B C T K) (g : Fin 4) (st : FVec Ideal S1x128x512 .f32) (hs : IsState D E X B T g st) (c : Fin 4) :
    IsState D E X B (T + 128 * c.val) g (K.before g st c) := by
  have h1 := step_at h 0 g st T (T + 128 * (1 : Fin 4).val) (by simp) (by simp) hs
  have h2 := step_at h 1 g _ _ (T + 128 * (2 : Fin 4).val) rfl (by simp) h1
  have h3 := step_at h 2 g _ _ (T + 128 * (3 : Fin 4).val) rfl (by simp) h2
  fin_cases c
  · exact hs
  · exact h1
  · exact h2
  · exact h3

/-- The state after the point is the recurrence's 512 tokens on. -/
theorem next_at (h : Holds D E X B C T K) (S : S4x128x512.Idx → Elt Ideal .f32) (hs : ∀ g, IsState D E X B T g (sl3 g S)) (g : Fin 4) :
    IsState D E X B (T + 512) g (sl3 g (K.next S)) := by
  intro n col
  exact step_at h 3 g _ _ (T + 512) rfl (by simp) (before_at h g _ (hs g) 3) n col

/-- The zero fill is the state before the first token. -/
theorem zero_at (g : Fin 4) : IsState D E X B 0 g (sl3 g (k0_pay1 (F := Ideal))) := by
  intro n col
  rw [state_zero]
  show k0_pay1 (F := Ideal) (ix3 g n col) = _
  pointwise [k0_pay1]
  rfl

/-- The point's output is the recurrence's, gated and normalised. -/
theorem outp_at (h : Holds D E X B C T K) (S : S4x128x512.Idx → Elt Ideal .f32) (hs : ∀ g, IsState D E X B T g (sl3 g S)) (c g : Fin 4)
    (l : Fin 128) (q : Fin 512) (y : S512x2048.Idx) (e0 : (y 0).val = 128 * c.val + l.val) (e1 : (y 1).val = 512 * g.val + q.val) :
    K.outp S y = normed (fun q => gated ((out (la D E (hd g q)) (wt D g (X g) q) (B g) (C g) (T + (128 * c.val + l.val)) : ℝ) : EReal)
      (K.skip g (ix2 0 q)) ((X g q (T + (128 * c.val + l.val)) : ℝ) : EReal) (K.z c g (ix2 l q))) (K.gain g (ix2 0 q)) q := by
  rw [← Blocks.outp_of K S c g _ rfl (ix2 l q) y e0 e1]
  unfold Blocks.tile
  rw [final_at]
  congr 1
  funext p
  rw [sum_at (h.steps c) (h.loads c g) _ (before_at h g _ (hs g) c), (h.loads c g).xs, Nat.add_assoc]

end Cert.KernelIdeal.Ssd

end
-- ==== Proof.Inputs.lean ====
module

public import proofs.«01_k».proof.Proof.Read
public import proofs.«01_k».proof.Proof.Chain
public import proofs.«01_k».proof.Proof.Data

/-! Every grid point's blocks hold the layer's data from its first token on. -/

@[expose] public section

set_option maxRecDepth 16384

noncomputable section

namespace Cert.KernelIdeal.Ssd

open Idealize.ShloMosaic Idealize.ShloMosaic.TcCoe Idealize.SL.Sem
open Cert.KernelIdeal Cert.KernelIdeal.Gen Cert.Ssd

variable (m : (ℓ : Loc nD τ sig) → Buf (Elt Ideal) ℓ)

/-- The arguments as the run finds them. -/
def argsOf (c : Fin nD) : Args where
  u := m ((c : Thread nD τ).loc main_arg0)
  zg := m ((c : Thread nD τ).loc main_arg1)
  rw := m ((c : Thread nD τ).loc main_arg2)
  bias := m ((c : Thread nD τ).loc main_arg3)
  alog := m ((c : Thread nD τ).loc main_arg4)
  skip := m ((c : Thread nD τ).loc main_arg5)
  gain := m ((c : Thread nD τ).loc main_arg6)

variable (c : Fin nD) (t : Fin cfg0.N)

theorem iblk3 : iblk m c 3 t = V m c main_v17 := by blk_ext! [iblk, idx t]
theorem iblk4 : iblk m c 4 t = V m c main_v19 := by blk_ext! [iblk, idx t]
theorem iblk5 : iblk m c 5 t = V m c main_v22 := by blk_ext! [iblk, idx t]
theorem iblk6 : iblk m c 6 t = V m c main_v23 := by blk_ext! [iblk, idx t]
theorem iblk7 : iblk m c 7 t = V m c main_v15 := by blk_ext! [iblk, idx t]

/-- The row of token `512 · (t mod 8) + r` of the point's batch. -/
theorem row_eq (r s : ℕ) (hr : r < 512) (hs : s = 512 * (t.val % 8) + r) : (rowOf (t.val / 8) s).val = 512 * t.val + r := by
  have ht : t.val < 32 := t.isLt
  subst hs
  show (4096 * (t.val / 8) + (512 * (t.val % 8) + r)) % 16384 = _
  omega

theorem dt_read (K : Blocks) (k : Fin 4) (l j : Fin 128) (a b : EReal)
    (ha : K.x2 (ix2 ⟨128 * k.val + l.val, by omega⟩ ⟨128 + j.val, by omega⟩) = a) (hb : K.x3 (ix2 0 j) = b) :
    K.dt k (ix2 l j) = sp (a + b) := by
  subst ha hb
  unfold Blocks.dt
  rw [dt_at]
  rfl

theorem rate_read (K : Blocks) (l j : Fin 128) (a : EReal) (ha : K.x4 (ix2 0 j) = a) :
    K.rate (ix2 l j) = (((-(Real.log 2)⁻¹ : ℝ)) : EReal) * Ideal.exp a := by
  subst ha
  unfold Blocks.rate
  rw [scale_at]

theorem ex_read (K : Blocks) (g : Fin 4) (j : Fin 128) (q : Fin 512) :
    K.ex g (ix2 j q) = K.x7 (ix2 j ⟨512 * g.val + q.val, by omega⟩) := by
  unfold Blocks.ex
  rw [shapeCast_self]
  unfold sl2
  simp only [Nat.zero_add]
  rfl

theorem skip_read (K : Blocks) (g : Fin 4) (q : Fin 512) :
    K.skip g (ix2 0 q) = K.x5 (ix2 0 ⟨512 * g.val + q.val, by omega⟩) := by
  unfold Blocks.skip
  rw [shapeCast_self]
  rfl

theorem gain_read (K : Blocks) (g : Fin 4) (q : Fin 512) :
    K.gain g (ix2 0 q) = K.x6 (ix2 0 ⟨512 * g.val + q.val, by omega⟩) := rfl

theorem z_read (K : Blocks) (k g : Fin 4) (l : Fin 128) (q : Fin 512) :
    K.z k g (ix2 l q) = K.x1 (ix2 ⟨128 * k.val + l.val, by omega⟩ ⟨512 * g.val + q.val, by omega⟩) := rfl

variable (hf : (argsOf m c).Finite)
include hf

theorem u_read (k : Fin 4) (l : Fin 128) (q : Fin 3072) : (blocksAt m c t).x0 (ix2 ⟨128 * k.val + l.val, by omega⟩ q)
    = ((((argsOf m c).u (ix2 (rowOf (t.val / 8) (512 * (t.val % 8) + 128 * k.val + l.val)) q)).toReal : ℝ) : EReal) :=
  (iblk0 m c t _ q (rowOf (t.val / 8) (512 * (t.val % 8) + 128 * k.val + l.val)) (row_eq t (128 * k.val + l.val) _ (by omega) (by omega))).trans
    (hf.u _ _)

theorem dt_holds (k : Fin 4) (l j : Fin 128) (hj : j.val < 32) :
    (blocksAt m c t).dt k (ix2 l j) = (((argsOf m c).D (t.val / 8) j (512 * (t.val % 8) + 128 * k.val + l.val) : ℝ) : EReal) := by
  have e1 := (iblk2 m c t ⟨128 * k.val + l.val, by omega⟩ ⟨128 + j.val, by omega⟩ (rowOf (t.val / 8) (512 * (t.val % 8) + 128 * k.val + l.val)) ⟨4224 + j.val, by omega⟩
        (row_eq t (128 * k.val + l.val) _ (by omega) (by omega)) (by show 4224 + j.val = 4096 + (128 + j.val); omega)).trans
      (hf.rw (rowOf (t.val / 8) (512 * (t.val % 8) + 128 * k.val + l.val)) ⟨4224 + j.val, by omega⟩ (by simp) (by simp; omega))
  have e2 := ((congrFun (iblk3 m c t) (ix2 0 j)).trans (bias_at m c j hj)).trans (hf.bias ⟨j.val, hj⟩)
  refine (dt_read _ k l j _ _ e1 e2).trans ?_
  rw [← EReal.coe_add, sp_coe]
  unfold Args.D
  simp only [Nat.mod_eq_of_lt hj]

theorem rate_holds (l j : Fin 128) (hj : j.val < 32) :
    (blocksAt m c t).rate (ix2 l j) = ((-(Real.log 2)⁻¹ * (argsOf m c).E j : ℝ) : EReal) := by
  have e := ((congrFun (iblk4 m c t) (ix2 0 j)).trans (alog_at m c j hj)).trans (hf.alog ⟨j.val, hj⟩)
  refine (rate_read _ l j _ e).trans ?_
  rw [Ideal.exp_coe, ← EReal.coe_mul]
  unfold Args.E
  simp only [Nat.mod_eq_of_lt hj]

omit hf in
theorem ex_holds (g : Fin 4) (j : Fin 128) (col : Fin 512) (hj : j.val < 32) :
    (blocksAt m c t).ex g (ix2 j col) = if j = hd g col then (1 : EReal) else 0 := by
  refine (ex_read _ g j col).trans (((congrFun (iblk7 m c t) _).trans (ex_at m c j ⟨512 * g.val + col.val, by omega⟩ hj)).trans ?_)
  refine if_congr ?_ rfl rfl
  rw [Fin.ext_iff]
  show j.val = (512 * g.val + col.val) / 64 ↔ j.val = 8 * g.val + col.val / 64
  omega

theorem holds :
    Holds ((argsOf m c).D (t.val / 8)) (argsOf m c).E ((argsOf m c).X (t.val / 8)) ((argsOf m c).B (t.val / 8)) ((argsOf m c).C (t.val / 8))
      (512 * (t.val % 8)) (blocksAt m c t) where
  steps k := ⟨fun l j hj => dt_holds m c t hf k l j hj, fun l j hj => rate_holds m c t hf l j hj⟩
  loads k g := ⟨fun j col hj => ex_holds m c t g j col hj,
    fun l col => u_read m c t hf k l ⟨512 * g.val + col.val, by omega⟩,
    fun l n => u_read m c t hf k l ⟨2048 + 128 * g.val + n.val, by omega⟩,
    fun l n => u_read m c t hf k l ⟨2560 + 128 * g.val + n.val, by omega⟩⟩

end Cert.KernelIdeal.Ssd

end
-- ==== Proof.PointOutA.lean ====
module

public import proofs.«01_k».proof.Proof.PointState
public import proofs.«01_k».proof.Proof.Gen.KernelIdeal.Value

/-! What a grid point leaves, as the point function of its blocks. -/

@[expose] public section

set_option maxRecDepth 16384
set_option maxHeartbeats 2000000

noncomputable section

namespace Cert.KernelIdeal.Ssd

open Idealize.ShloMosaic Idealize.ShloMosaic.TcCoe Idealize.SL.Sem
open Cert.KernelIdeal Cert.KernelIdeal.Gen Cert.Ssd

variable (m : (ℓ : Loc nD τ sig) → Buf (Elt Ideal) ℓ)

theorem out_A (c : Dev nD) (t : Fin cfg0.N) (acc : Vec Ideal S512x2048 .bf16 × Vec Ideal S4x128x512 .f32) (h0 : t.val % 8 = 0) :
    (Value.stAt0 m c t.val t.isLt acc).1 = (blocksAt m c t).outp (k0_pay1 (F := Ideal)) := by
  rw [Value.stAt0_A m c t acc h0]
  dsimp only
  frame_open
  simp (disch := decide) only [↓ View.readCov_skip, ↓ View.readCov_cons_toLoadRect, ↓ View.readCov_fill, ↓ yd_load, ↓ catC_eq, ↓ catR_eq]
  simp (disch := decide) only [View.read_writes_junk_eq_canon, View.canon_cons_unit_lit',
    View.ld_unit_lit', View.readCov_unit_lit', View.readCov_cons_unit_lit', View.readAt_eq_ld,
    Memref.IsWhole.read_unread, Idealize.ShloMosaic.read_unread_whole, ld_sl2, ld_sl3 0 ![0, 0, 0] rfl, ld_sl3 1 ![1, 0, 0] rfl,
    ld_sl3 2 ![2, 0, 0] rfl, ld_sl3 3 ![3, 0, 0] rfl]
  unfold blocksAt
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  funext y
  canon_tiles x e
  · refine Blocks.outp_of _ _ 3 3 _ ?_ x y (by first | exact e0 | exact e0.trans (Nat.zero_add _).symm) (by first | exact e1 | exact e1.trans (Nat.zero_add _).symm)
    rfl
  · refine Blocks.outp_of _ _ 3 2 _ ?_ x y (by first | exact e0 | exact e0.trans (Nat.zero_add _).symm) (by first | exact e1 | exact e1.trans (Nat.zero_add _).symm)
    rfl
  · refine Blocks.outp_of _ _ 3 1 _ ?_ x y (by first | exact e0 | exact e0.trans (Nat.zero_add _).symm) (by first | exact e1 | exact e1.trans (Nat.zero_add _).symm)
    rfl
  · refine Blocks.outp_of _ _ 3 0 _ ?_ x y (by first | exact e0 | exact e0.trans (Nat.zero_add _).symm) (by first | exact e1 | exact e1.trans (Nat.zero_add _).symm)
    rfl
  · refine Blocks.outp_of _ _ 2 3 _ ?_ x y (by first | exact e0 | exact e0.trans (Nat.zero_add _).symm) (by first | exact e1 | exact e1.trans (Nat.zero_add _).symm)
    rfl
  · refine Blocks.outp_of _ _ 2 2 _ ?_ x y (by first | exact e0 | exact e0.trans (Nat.zero_add _).symm) (by first | exact e1 | exact e1.trans (Nat.zero_add _).symm)
    rfl
  · refine Blocks.outp_of _ _ 2 1 _ ?_ x y (by first | exact e0 | exact e0.trans (Nat.zero_add _).symm) (by first | exact e1 | exact e1.trans (Nat.zero_add _).symm)
    rfl
  · refine Blocks.outp_of _ _ 2 0 _ ?_ x y (by first | exact e0 | exact e0.trans (Nat.zero_add _).symm) (by first | exact e1 | exact e1.trans (Nat.zero_add _).symm)
    rfl
  · refine Blocks.outp_of _ _ 1 3 _ ?_ x y (by first | exact e0 | exact e0.trans (Nat.zero_add _).symm) (by first | exact e1 | exact e1.trans (Nat.zero_add _).symm)
    rfl
  · refine Blocks.outp_of _ _ 1 2 _ ?_ x y (by first | exact e0 | exact e0.trans (Nat.zero_add _).symm) (by first | exact e1 | exact e1.trans (Nat.zero_add _).symm)
    rfl
  · refine Blocks.outp_of _ _ 1 1 _ ?_ x y (by first | exact e0 | exact e0.trans (Nat.zero_add _).symm) (by first | exact e1 | exact e1.trans (Nat.zero_add _).symm)
    rfl
  · refine Blocks.outp_of _ _ 1 0 _ ?_ x y (by first | exact e0 | exact e0.trans (Nat.zero_add _).symm) (by first | exact e1 | exact e1.trans (Nat.zero_add _).symm)
    rfl
  · refine Blocks.outp_of _ _ 0 3 _ ?_ x y (by first | exact e0 | exact e0.trans (Nat.zero_add _).symm) (by first | exact e1 | exact e1.trans (Nat.zero_add _).symm)
    rfl
  · refine Blocks.outp_of _ _ 0 2 _ ?_ x y (by first | exact e0 | exact e0.trans (Nat.zero_add _).symm) (by first | exact e1 | exact e1.trans (Nat.zero_add _).symm)
    rfl
  · refine Blocks.outp_of _ _ 0 1 _ ?_ x y (by first | exact e0 | exact e0.trans (Nat.zero_add _).symm) (by first | exact e1 | exact e1.trans (Nat.zero_add _).symm)
    rfl
  · refine Blocks.outp_of _ _ 0 0 _ ?_ x y (by first | exact e0 | exact e0.trans (Nat.zero_add _).symm) (by first | exact e1 | exact e1.trans (Nat.zero_add _).symm)
    rfl

end Cert.KernelIdeal.Ssd

end
-- ==== Proof.PointOutB.lean ====
module

public import proofs.«01_k».proof.Proof.PointState
public import proofs.«01_k».proof.Proof.Gen.KernelIdeal.Value

/-! What a grid point leaves, as the point function of its blocks. -/

@[expose] public section

set_option maxRecDepth 16384
set_option maxHeartbeats 2000000

noncomputable section

namespace Cert.KernelIdeal.Ssd

open Idealize.ShloMosaic Idealize.ShloMosaic.TcCoe Idealize.SL.Sem
open Cert.KernelIdeal Cert.KernelIdeal.Gen Cert.Ssd

variable (m : (ℓ : Loc nD τ sig) → Buf (Elt Ideal) ℓ)

theorem out_B (c : Dev nD) (t : Fin cfg0.N) (acc : Vec Ideal S512x2048 .bf16 × Vec Ideal S4x128x512 .f32) (h0 : ¬t.val % 8 = 0) :
    (Value.stAt0 m c t.val t.isLt acc).1 = (blocksAt m c t).outp acc.2 := by
  rw [Value.stAt0_B m c t acc h0]
  dsimp only
  frame_open
  simp (disch := decide) only [↓ View.readCov_skip, ↓ View.readCov_cons_toLoadRect, ↓ View.readCov_fill, ↓ yd_load, ↓ catC_eq, ↓ catR_eq]
  simp (disch := decide) only [View.read_writes_junk_eq_canon, View.canon_cons_unit_lit',
    View.ld_unit_lit', View.readCov_unit_lit', View.readCov_cons_unit_lit', View.readAt_eq_ld,
    Memref.IsWhole.read_unread, Idealize.ShloMosaic.read_unread_whole, ld_sl2, ld_sl3 0 ![0, 0, 0] rfl, ld_sl3 1 ![1, 0, 0] rfl,
    ld_sl3 2 ![2, 0, 0] rfl, ld_sl3 3 ![3, 0, 0] rfl]
  unfold blocksAt
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  funext y
  canon_tiles x e
  · refine Blocks.outp_of _ _ 3 3 _ ?_ x y (by first | exact e0 | exact e0.trans (Nat.zero_add _).symm) (by first | exact e1 | exact e1.trans (Nat.zero_add _).symm)
    rfl
  · refine Blocks.outp_of _ _ 3 2 _ ?_ x y (by first | exact e0 | exact e0.trans (Nat.zero_add _).symm) (by first | exact e1 | exact e1.trans (Nat.zero_add _).symm)
    rfl
  · refine Blocks.outp_of _ _ 3 1 _ ?_ x y (by first | exact e0 | exact e0.trans (Nat.zero_add _).symm) (by first | exact e1 | exact e1.trans (Nat.zero_add _).symm)
    rfl
  · refine Blocks.outp_of _ _ 3 0 _ ?_ x y (by first | exact e0 | exact e0.trans (Nat.zero_add _).symm) (by first | exact e1 | exact e1.trans (Nat.zero_add _).symm)
    rfl
  · refine Blocks.outp_of _ _ 2 3 _ ?_ x y (by first | exact e0 | exact e0.trans (Nat.zero_add _).symm) (by first | exact e1 | exact e1.trans (Nat.zero_add _).symm)
    rfl
  · refine Blocks.outp_of _ _ 2 2 _ ?_ x y (by first | exact e0 | exact e0.trans (Nat.zero_add _).symm) (by first | exact e1 | exact e1.trans (Nat.zero_add _).symm)
    rfl
  · refine Blocks.outp_of _ _ 2 1 _ ?_ x y (by first | exact e0 | exact e0.trans (Nat.zero_add _).symm) (by first | exact e1 | exact e1.trans (Nat.zero_add _).symm)
    rfl
  · refine Blocks.outp_of _ _ 2 0 _ ?_ x y (by first | exact e0 | exact e0.trans (Nat.zero_add _).symm) (by first | exact e1 | exact e1.trans (Nat.zero_add _).symm)
    rfl
  · refine Blocks.outp_of _ _ 1 3 _ ?_ x y (by first | exact e0 | exact e0.trans (Nat.zero_add _).symm) (by first | exact e1 | exact e1.trans (Nat.zero_add _).symm)
    rfl
  · refine Blocks.outp_of _ _ 1 2 _ ?_ x y (by first | exact e0 | exact e0.trans (Nat.zero_add _).symm) (by first | exact e1 | exact e1.trans (Nat.zero_add _).symm)
    rfl
  · refine Blocks.outp_of _ _ 1 1 _ ?_ x y (by first | exact e0 | exact e0.trans (Nat.zero_add _).symm) (by first | exact e1 | exact e1.trans (Nat.zero_add _).symm)
    rfl
  · refine Blocks.outp_of _ _ 1 0 _ ?_ x y (by first | exact e0 | exact e0.trans (Nat.zero_add _).symm) (by first | exact e1 | exact e1.trans (Nat.zero_add _).symm)
    rfl
  · refine Blocks.outp_of _ _ 0 3 _ ?_ x y (by first | exact e0 | exact e0.trans (Nat.zero_add _).symm) (by first | exact e1 | exact e1.trans (Nat.zero_add _).symm)
    rfl
  · refine Blocks.outp_of _ _ 0 2 _ ?_ x y (by first | exact e0 | exact e0.trans (Nat.zero_add _).symm) (by first | exact e1 | exact e1.trans (Nat.zero_add _).symm)
    rfl
  · refine Blocks.outp_of _ _ 0 1 _ ?_ x y (by first | exact e0 | exact e0.trans (Nat.zero_add _).symm) (by first | exact e1 | exact e1.trans (Nat.zero_add _).symm)
    rfl
  · refine Blocks.outp_of _ _ 0 0 _ ?_ x y (by first | exact e0 | exact e0.trans (Nat.zero_add _).symm) (by first | exact e1 | exact e1.trans (Nat.zero_add _).symm)
    rfl

end Cert.KernelIdeal.Ssd

end
-- ==== Proof.KernelValue.lean ====
module

public import proofs.«01_k».proof.Proof.Inputs
public import proofs.«01_k».proof.Proof.PointOutA
public import proofs.«01_k».proof.Proof.PointOutB

/-! The kernel's result: every row is the recurrence's output, gated and normalised. -/

@[expose] public section

set_option maxRecDepth 16384

noncomputable section

namespace Cert.KernelIdeal.Ssd

open Idealize.ShloMosaic Idealize.ShloMosaic.TcCoe Idealize.SL.Sem
open Cert.KernelIdeal Cert.KernelIdeal.Gen Cert.Ssd

theorem half_bits : Ideal.ofBits .f32 0x3F000000#32 = ((1 / 2 : ℝ) : EReal) := by
  simp [Ideal.ofBits, Ideal.ieee]
  rw [← EReal.coe_mul]
  norm_num

variable (m : (ℓ : Loc nD τ sig) → Buf (Elt Ideal) ℓ) (c : Dev nD)

/-- The scratch holds the recurrence's state of point `n`'s batch at token `T`. -/
def StateAt (n T : ℕ) (S : S4x128x512.Idx → Elt Ideal .f32) : Prop :=
  ∀ g, IsState ((argsOf m c).D (n / 8)) (argsOf m c).E ((argsOf m c).X (n / 8)) ((argsOf m c).B (n / 8)) T g (sl3 g S)

/-- What a point leaves: its output and next state are those of a scratch holding the state at its first token. -/
def Leaves (n : ℕ) (hn : n < cfg0.N) (w : Vec Ideal S512x2048 .bf16 × Vec Ideal S4x128x512 .f32) : Prop :=
  ∃ S, StateAt m c n (512 * (n % 8)) S ∧ w.1 = (blocksAt m c ⟨n, hn⟩).outp S ∧ w.2 = (blocksAt m c ⟨n, hn⟩).next S

theorem leaves_A (n : ℕ) (hn : n < cfg0.N) (acc : Vec Ideal S512x2048 .bf16 × Vec Ideal S4x128x512 .f32) (h0 : n % 8 = 0) :
    Leaves m c n hn (Value.stAt0 m c n hn acc) := by
  refine ⟨k0_pay1 (F := Ideal), ?_, out_A m c ⟨n, hn⟩ acc h0, state_A m c ⟨n, hn⟩ acc h0⟩
  rw [h0]
  exact fun g => zero_at g

theorem leaves_B (n : ℕ) (hn : n < cfg0.N) (acc : Vec Ideal S512x2048 .bf16 × Vec Ideal S4x128x512 .f32) (h0 : ¬n % 8 = 0)
    (hs : StateAt m c n (512 * (n % 8)) acc.2) : Leaves m c n hn (Value.stAt0 m c n hn acc) :=
  ⟨acc.2, hs, out_B m c ⟨n, hn⟩ acc h0, state_B m c ⟨n, hn⟩ acc h0⟩

variable (hf : (argsOf m c).Finite)
include hf

theorem leaves : ∀ (n : ℕ) (hn : n < cfg0.N), Leaves m c n hn (outsAt0 m c n hn)
  | 0, hn => by
    rw [Value.outsAt0_zero]
    exact leaves_A m c 0 hn _ rfl
  | n + 1, hn => by
    rw [Value.outsAt0_succ]
    by_cases h0 : (n + 1) % 8 = 0
    · exact leaves_A m c _ hn _ h0
    · obtain ⟨S, hS, _, h2⟩ := leaves n (Nat.lt_of_succ_lt hn)
      refine leaves_B m c _ hn _ h0 ?_
      rw [h2]
      have hd : (n + 1) / 8 = n / 8 := by omega
      have hm : 512 * ((n + 1) % 8) = 512 * (n % 8) + 512 := by omega
      unfold StateAt
      rw [hd, hm]
      exact fun g => next_at (holds m c ⟨n, Nat.lt_of_succ_lt hn⟩ hf) S hS g

omit hf in
theorem scan_eq (A : Args) (b : ℕ) (g : Fin 4) (q : Fin 512) (s : ℕ) :
    out (la (A.D b) A.E (hd g q)) (wt (A.D b) g (A.X b g) q) (A.B b g) (A.C b g) s = A.scan b g q s := rfl

omit hf in
theorem skip_val (t : Fin cfg0.N) (g : Fin 4) (p : Fin 512) :
    (blocksAt m c t).skip g (ix2 0 p) = (argsOf m c).skip (ix1 ⟨8 * g.val + p.val / 64, by omega⟩) := by
  rw [skip_read]
  refine (congrFun (iblk5 m c t) _).trans ((skip_at m c ⟨512 * g.val + p.val, by omega⟩).trans ?_)
  exact congrArg (m ((c : Thread nD τ).loc main_arg5)) (congrArg ix1 (Fin.ext (by show (512 * g.val + p.val) / 64 = 8 * g.val + p.val / 64; omega)))

omit hf in
theorem gain_val (t : Fin cfg0.N) (g : Fin 4) (q : Fin 512) :
    (blocksAt m c t).gain g (ix2 0 q) = (argsOf m c).gain (ix1 ⟨512 * g.val + q.val, by omega⟩) := by
  rw [gain_read]
  exact (congrFun (iblk6 m c t) _).trans (gain_at m c ⟨512 * g.val + q.val, by omega⟩)

theorem z_val (t : Fin cfg0.N) (R : Fin 16384) (k g : Fin 4) (l : Fin 128) (p : Fin 512) (hR : R.val = 512 * t.val + (128 * k.val + l.val)) :
    (blocksAt m c t).z k g (ix2 l p) = ((((argsOf m c).zg (ix2 R ⟨512 * g.val + p.val, by omega⟩)).toReal : ℝ) : EReal) := by
  rw [z_read]
  exact (iblk1 m c t ⟨128 * k.val + l.val, by omega⟩ ⟨512 * g.val + p.val, by omega⟩ R ⟨512 * g.val + p.val, by omega⟩ hR rfl).trans
    (hf.zg R _ (by show 512 * g.val + p.val < 2048; omega))

theorem x_val (b s : ℕ) (R : Fin 16384) (g : Fin 4) (p : Fin 512) (hR : rowOf b s = R) :
    (((argsOf m c).X b g p s : ℝ) : EReal) = (argsOf m c).u (ix2 R ⟨512 * g.val + p.val, by omega⟩) := by
  subst hR
  exact (hf.u _ _).symm

omit hf in
/-- The gate written with the hyperbolic tangent is the gate. -/
theorem gated_eq (A : Args) (R : Fin 16384) (g : Fin 4) (p : Fin 512) (b s : ℕ) (hb : R.val / 4096 = b) (hs : R.val % 4096 = s) :
    gated ((A.scan b g p s : ℝ) : EReal) (A.skip (ix1 ⟨8 * g.val + p.val / 64, by omega⟩)) (A.u (ix2 R ⟨512 * g.val + p.val, by omega⟩))
      (((A.zg (ix2 R ⟨512 * g.val + p.val, by omega⟩)).toReal : ℝ) : EReal) = A.gate R g p := by
  subst hb hs
  unfold gated Args.gate
  rw [silu_tanh _ half_bits]

/-- A point's output row. -/
theorem point_row (t : Fin cfg0.N) (S : S4x128x512.Idx → Elt Ideal .f32) (hS : StateAt m c t.val (512 * (t.val % 8)) S)
    (R : Fin 16384) (k g : Fin 4) (l : Fin 128) (q : Fin 512) (hR : R.val = 512 * t.val + (128 * k.val + l.val))
    (y : S512x2048.Idx) (e0 : (y 0).val = 128 * k.val + l.val) (e1 : (y 1).val = 512 * g.val + q.val) :
    (blocksAt m c t).outp S y = (argsOf m c).row R g q := by
  have ht : t.val < 32 := t.isLt
  have hb : R.val / 4096 = t.val / 8 := by omega
  have hs : R.val % 4096 = 512 * (t.val % 8) + (128 * k.val + l.val) := by omega
  have hrow : rowOf (t.val / 8) (512 * (t.val % 8) + (128 * k.val + l.val)) = R :=
    Fin.ext ((row_eq t (128 * k.val + l.val) _ (by omega) rfl).trans hR.symm)
  refine (outp_at (holds m c t hf) S hS k g l q y e0 e1).trans ?_
  simp only [scan_eq, skip_val, gain_val, z_val m c hf t R k g l _ hR, x_val m c hf _ _ R g _ hrow, gated_eq (argsOf m c) R g _ _ _ hb hs]
  rfl

/-- The kernel's result. -/
theorem result_at (R : Fin 16384) (g : Fin 4) (q : Fin 512) :
    Value.G8 m c (ix2 R ⟨512 * g.val + q.val, by omega⟩) = (argsOf m c).row R g q := by
  have hp : Value.pt8Of (ix2 R ⟨512 * g.val + q.val, by omega⟩) = R.val / 512 := by
    show 1 * (R.val / 512 - 0) + 1 * ((512 * g.val + q.val) / 2048 - 0) = R.val / 512
    omega
  have hlt : R.val / 512 < cfg0.N := Nat.div_lt_of_lt_mul R.isLt
  unfold Value.G8
  rw [dif_pos (by rw [hp]; exact hlt), ← Value.outsAt0_sweep m c _ (by rw [hp]; exact hlt)]
  simp only [hp]
  obtain ⟨S, hS, h1, _⟩ := leaves m c hf (R.val / 512) hlt
  rw [h1]
  exact point_row m c hf ⟨R.val / 512, hlt⟩ S hS R ⟨R.val % 512 / 128, by omega⟩ g ⟨R.val % 512 % 128, by omega⟩ q
    (by show R.val = 512 * (R.val / 512) + (128 * (R.val % 512 / 128) + R.val % 512 % 128); omega) _
    (by show R.val % 512 = 128 * (R.val % 512 / 128) + R.val % 512 % 128; omega)
    (by show (512 * g.val + q.val) % 2048 = 512 * g.val + q.val; omega)

end Cert.KernelIdeal.Ssd

end
-- ==== Proof.Algebraic.lean ====
module

public import proofs.«01_k».proof.Proof.RefFinal
public import proofs.«01_k».proof.Proof.KernelValue
public import Idealize.ShloMosaic.Lib.Quiescent

/-! The two programs compute the same array, and the reference's run leaves its arguments and counters. -/

@[expose] public section

set_option maxRecDepth 16384

noncomputable section

namespace Cert.Ssd

open Idealize.ShloMosaic Idealize.SL.Sem

/-- A row and a column, the column by its group. -/
theorem idx_split (i : (⟨2, ![16384, 2048]⟩ : Shape).Idx) :
    ∃ (R : Fin 16384) (g : Fin 4) (q : Fin 512), i = ix2 R ⟨512 * g.val + q.val, by omega⟩ := by
  have h1 : (i 1).val < 2048 := (i 1).isLt
  refine ⟨i 0, ⟨(i 1).val / 512, Nat.div_lt_of_lt_mul h1⟩, ⟨(i 1).val % 512, Nat.mod_lt _ (by norm_num)⟩, ?_⟩
  funext d
  match d with
  | ⟨0, _⟩ => rfl
  | ⟨1, _⟩ => exact Fin.ext (Nat.div_add_mod _ _).symm

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- From the same finite arguments the reference's result is the kernel's. -/
theorem results_eq (hf : (Cert.KernelIdeal.Ssd.argsOf m c).Finite)
    (ha : Cert.ReferenceIdeal.Ssd.argsIn (StableHlo.launchContents m' c) = Cert.KernelIdeal.Ssd.argsOf m c) :
    StableHlo.finalContents Cert.ReferenceIdeal.Value.condOps Cert.ReferenceIdeal.Value.preI Cert.ReferenceIdeal.Value.bodyI
        Cert.ReferenceIdeal.Value.postI 64 m' c (Proc.devRef .tc Cert.ReferenceIdeal.main_v94)
      = Cert.KernelIdeal.Value.G8 m c := by
  funext i
  obtain ⟨R, g, q, rfl⟩ := idx_split i
  exact (Cert.ReferenceIdeal.Ssd.result_at m' c (ha ▸ hf) R g q).trans
    ((congrArg (fun A : Args => A.row R g q) ha).trans (Cert.KernelIdeal.Ssd.result_at m c hf R g q).symm)

end

end Cert.Ssd

namespace Cert.ReferenceIdeal.Ssd

open Idealize.ShloMosaic Idealize.ShloMosaic.TcCoe Idealize.SL.Sem
open Cert.ReferenceIdeal Cert.ReferenceIdeal.Gen Cert.ReferenceIdeal.Value

variable (m : (ℓ : Loc nD τ sig) → Buf (Elt Ideal) ℓ) (ρ : Dev nD → PrngReg)

/-- The reference's run: its result as folded, its arguments unchanged, no counter left. -/
theorem run : θ_run (defs (F := Ideal)) (onTc (τ := τ) (main (F := Ideal))) ⟨m, fun _ => 0, ρ⟩ (fun r => (∀ c : Dev nD,
      r.2.mem ((c.tc : Thread nD τ).loc main_v94) = StableHlo.finalContents condOps preI bodyI postI 64 m c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
    ⟨h c main_v94 rfl, (h c main_arg0 rfl).trans (arg_final m c (by decide)), (h c main_arg1 rfl).trans (arg_final m c (by decide)),
      (h c main_arg2 rfl).trans (arg_final m c (by decide)), (h c main_arg3 rfl).trans (arg_final m c (by decide)),
      (h c main_arg4 rfl).trans (arg_final m c (by decide)), (h c main_arg5 rfl).trans (arg_final m c (by decide)),
      (h c main_arg6 rfl).trans (arg_final m c (by decide))⟩, sem_eq_zero_of_no_sems rfl _⟩) (run_fold m ρ)

end Cert.ReferenceIdeal.Ssd

end
-- ==== Proof.Finite.lean ====
module

public import proofs.«01_k».proof.Pre_finite_inputs
public import proofs.«01_k».proof.Proof.Data
public import Idealize.ShloMosaic.Lib.ReduceAll
public import Idealize.ShloMosaic.Lib.Affine

/-! The precondition: its side conditions, and that it makes the entries the two programs read finite. -/

@[expose] public section

set_option maxRecDepth 16384
set_option synthInstance.maxSize 4096

noncomputable section

namespace Cert.Pre_finite_inputs

open Idealize.ShloMosaic Cert.Ssd

/-- The side conditions of the precondition's operations. -/
theorem facts : Facts where
  slices_S16384x4096_S16384x2048_0_0 := by decide
  slices_S16384x4608_S16384x32_0_4224 := by decide
  bcast_S_S16384x3072 := by decide
  reducesTo_S16384x3072_S_d0_1 := by decide
  h_S_ := by decide
  bcast_S_S16384x2048 := by decide
  reducesTo_S16384x2048_S_d0_1 := by decide
  bcast_S_S16384x32 := by decide
  reducesTo_S16384x32_S_d0_1 := by decide
  bcast_S_S32 := by decide
  reducesTo_S32_S_d0 := by decide

theorem inf_bits : Ideal.ofBits .f32 0x7F800000#32 = (⊤ : EReal) := by simp [Ideal.ofBits, Ideal.ieee]

/-- An entry whose absolute value compares below infinity is a real number. -/
theorem coe_of_below (x : Ideal .f32)
    (h : FloatOps.cmpf .olt (FloatOps.hostAbsf x) (FloatOps.ofBits (F := Ideal) .f32 0x7F800000#32) = 1#1) :
    (x : EReal) = ((EReal.toReal x : ℝ) : EReal) := by
  have h' : Ideal.cmp .olt (max (x : EReal) (-(x : EReal))) ⊤ = 1#1 := inf_bits ▸ h
  unfold Ideal.cmp at h'
  have hlt : max (x : EReal) (-(x : EReal)) < ⊤ := by
    by_contra hn
    simp [hn] at h'
  have hx : (x : EReal) ≠ ⊤ := (max_lt_iff.1 hlt).1.ne
  refine (EReal.coe_toReal hx fun hb => ?_).symm
  have h2 := (max_lt_iff.1 hlt).2
  rw [hb] at h2
  simp at h2

instance : Subsingleton S_.Idx := ⟨fun a b => funext fun d => d.elim0⟩

/-- A reduction by `and` of such comparisons that is true makes every entry a real number. -/
theorem coe_of_all {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant (F := Ideal) S_ .f32 0x7F800000#32)))
      (constantI S_ 1 1#1) hr hu j = 1#1) (i : s.Idx) : (x i : EReal) = ((EReal.toReal (x i) : ℝ) : EReal) :=
  coe_of_below (x i) (Host.reduce_andi_all _ _ hr hu j h i)

/-- A column of the gate's half of the second argument. -/
theorem slice_zg [Facts] (x : FVec Ideal S16384x4096 .f32) (R : Fin 16384) (q : Fin 4096) (hq : q.val < 2048) :
    extractStridedSlice S16384x2048 ![0, 0] x Facts.slices_S16384x4096_S16384x2048_0_0 (ix2 R ⟨q.val, hq⟩) = x (ix2 R q) := by
  refine congrArg x ?_
  funext d
  match d with
  | ⟨0, _⟩ => exact Fin.ext (Nat.zero_add _)
  | ⟨1, _⟩ => exact Fin.ext (Nat.zero_add _)

/-- A column of the step sizes' part of the third argument. -/
theorem slice_rw [Facts] (x : FVec Ideal S16384x4608 .f32) (R : Fin 16384) (q : Fin 4608) (hl : 4224 ≤ q.val) (hr : q.val < 4256) :
    extractStridedSlice S16384x32 ![0, 4224] x Facts.slices_S16384x4608_S16384x32_0_4224 (ix2 R ⟨q.val - 4224, by omega⟩)
      = x (ix2 R q) := by
  refine congrArg x ?_
  funext d
  match d with
  | ⟨0, _⟩ => exact Fin.ext (Nat.zero_add _)
  | ⟨1, _⟩ => exact Fin.ext (by show 4224 + (q.val - 4224) = q.val; omega)

/-- The precondition makes the arguments finite where they are read. -/
theorem finite [Facts] (A : Args) (h : fn (F := Ideal) A.u A.zg A.rw A.bias A.alog A.skip A.gain = fun _ => 1#1) : A.Finite := by
  have h0 := congrFun h (Shape.Idx.first Facts.h_S_)
  obtain ⟨h1, hal⟩ := IntOp.andi_eq_one.1 h0
  obtain ⟨h2, hbi⟩ := IntOp.andi_eq_one.1 h1
  obtain ⟨h3, hrw⟩ := IntOp.andi_eq_one.1 h2
  obtain ⟨hu, hzg⟩ := IntOp.andi_eq_one.1 h3
  beta_reduce at hu hzg hrw hbi hal
  have cu := coe_of_all _ _ _ _ _ hu
  have cz := coe_of_all _ _ _ _ _ hzg
  have cr := coe_of_all _ _ _ _ _ hrw
  have cb := coe_of_all _ _ _ _ _ hbi
  have ca := coe_of_all _ _ _ _ _ hal
  refine ⟨fun R q => cu (ix2 R q), fun R q hq => ?_, fun R q hl hr => ?_, fun j => cb (ix1 j), fun j => ca (ix1 j)⟩
  · have e := cz (ix2 R ⟨q.val, hq⟩)
    rwa [slice_zg A.zg R q hq] at e
  · have e := cr (ix2 R ⟨q.val - 4224, by omega⟩)
    rwa [slice_rw A.rw R q hl hr] at e

end Cert.Pre_finite_inputs

end
-- ==== Proof.MergeValue.lean ====
module

public import proofs.«01_k».proof.Proof.KernelValue
public import proofs.«01_k».proof.Proof.Gen.MergeIdeal.Value
public import proofs.«01_k».proof.Proof.Gen.MergeReferenceIdeal.Run
public import Idealize.ShloMosaic.Lib.Pipeline.ValueKit

/-! The gated merge: every block of rows is its rows of the reference's result. -/

@[expose] public section

set_option maxRecDepth 16384

noncomputable section

namespace Cert.MergeIdeal.Whole

open Idealize.ShloMosaic Idealize.ShloMosaic.TcCoe Idealize.SL.Sem
open Cert.MergeIdeal Cert.MergeIdeal.Gen

variable (m : (ℓ : Loc nD τ sig) → Buf (Elt Ideal) ℓ)

section
open Cert.MergeReferenceIdeal Cert.MergeReferenceIdeal.Gen

/-- Both gates, as the reference writes them. -/
abbrev gates (zg : FVec Ideal S16384x4096 .f32) (b : FVec Ideal S2048 .f32) : FVec Ideal S4x4096x2048 .f32 :=
  Host.divf (broadcastInDim S4x4096x2048 ![] bcast_S_S4x4096x2048 (constant S_ .f32 0x3F800000#32)) (addf (broadcastInDim S4x4096x2048 ![] bcast_S_S4x4096x2048 (constant S_ .f32 0x3F800000#32)) (Host.exp (Host.negf (addf (shapeCast _ (extractStridedSlice S16384x2048 ![0, 2048] zg slices_S16384x4096_S16384x2048_0_2048) shapeCasts_S16384x2048_S4x4096x2048) (broadcastInDim S4x4096x2048 ![0, 1, 2] bcast_S1x1x2048_S4x4096x2048_0_1_2 (broadcastInDim S1x1x2048 ![2] bcast_S2048_S1x1x2048_2 b))))))

/-- The gated sum of the two branches' products. -/
abbrev merged (ys : FVec Ideal S16384x2048 .bf16) (yr : FVec Ideal S16384x1024 .bf16) (zg : FVec Ideal S16384x4096 .f32)
    (b : FVec Ideal S2048 .f32) (ws : FVec Ideal S2048x1024 .f32) (wr : FVec Ideal S1024x1024 .f32) : FVec Ideal S4x4096x1024 .f32 :=
  addf (mulf (extractStridedSlice S4x4096x1024 ![0, 0, 0] (gates zg b) slices_S4x4096x2048_S4x4096x1024_0_0_0)
      (Host.dotGeneral dot_S4x4096x2048_S2048x1024_S4x4096x1024_2_0_01_1_n_n none (shapeCast _ (extf .f32 ys MergeReferenceIdeal.Gen.bitsLt_bf16_f32) shapeCasts_S16384x2048_S4x4096x2048) ws))
    (mulf (extractStridedSlice S4x4096x1024 ![0, 0, 1024] (gates zg b) slices_S4x4096x2048_S4x4096x1024_0_0_1024)
      (Host.dotGeneral dot_S4x4096x1024_S1024x1024_S4x4096x1024_2_0_01_1_n_n none (shapeCast _ (extf .f32 yr MergeReferenceIdeal.Gen.bitsLt_bf16_f32) shapeCasts_S16384x1024_S4x4096x1024) wr))

/-- The output product of a merged array. -/
abbrev outOf (M : FVec Ideal S4x4096x1024 .f32) (wo : FVec Ideal S1024x1024 .f32) : FVec Ideal S4x4096x1024 .f32 :=
  Host.dotGeneral dot_S4x4096x1024_S1024x1024_S4x4096x1024_2_0_01_1_n_n none M wo

/-- The normalised residual sum of a merged array. -/
abbrev closing (x : FVec Ideal S4x4096x1024 .f32) (M : FVec Ideal S4x4096x1024 .f32) (wo : FVec Ideal S1024x1024 .f32)
    (g : FVec Ideal S1024 .f32) : FVec Ideal S16384x1024 .f32 :=
  shapeCast _ (addf x (mulf (mulf (outOf M wo) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (outOf M wo) (outOf M wo)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g)))) MergeReferenceIdeal.Gen.shapeCasts_S4x4096x1024_S16384x1024

end

theorem idx : ∀ t : Fin cfg0.N, win0_0.index t = ![t.val, 0] ∧ win0_1.index t = ![t.val, 0] ∧ win0_2.index t = ![t.val, 0]
    ∧ win0_3.index t = ![t.val, 2] ∧ win0_4.index t = ![t.val, 3] ∧ win0_5.index t = ![0, 0] ∧ win0_6.index t = ![0, 0]
    ∧ win0_7.index t = ![0, 0] ∧ win0_8.index t = ![0, 0] ∧ win0_9.index t = ![0, 0] ∧ win0_10.index t = ![t.val, 0] ∧ t.val < 32 :=
  (by decide +kernel : ∀ t : Fin grid0.N, _)

/-- A half of `1 + tanh (z / 2)` is the logistic of `z`, at every extended real. -/
theorem half_tanh (h : EReal) (hh : h = ((1 / 2 : ℝ) : EReal)) (z : EReal) :
    h * Ideal.tanh (h * z) + h = Ideal.div 1 (1 + Ideal.exp (-z)) := by
  subst hh
  induction z using EReal.rec with
  | bot =>
    rw [EReal.coe_mul_bot_of_pos (by norm_num), Ideal.tanh_bot, EReal.neg_bot]
    have : Ideal.exp ⊤ = ⊤ := rfl
    rw [this, EReal.add_top_of_ne_bot (by decide), Ideal.div, if_neg (by decide), EReal.inv_top, mul_zero]
    rw [mul_neg, mul_one, ← EReal.coe_neg, ← EReal.coe_add]
    norm_num
  | top =>
    rw [EReal.coe_mul_top_of_pos (by norm_num), Ideal.tanh_top, EReal.neg_top]
    have : Ideal.exp ⊥ = 0 := rfl
    rw [this, add_zero, ← EReal.coe_one, Ideal.div_coe one_ne_zero, ← EReal.coe_mul, ← EReal.coe_mul, ← EReal.coe_add]
    norm_num
  | coe z =>
    have h : (1 + Real.exp (-z)) ≠ 0 := by positivity
    rw [← EReal.coe_neg, Ideal.exp_coe, ← EReal.coe_one, ← EReal.coe_add, Ideal.div_coe h, ← EReal.coe_mul, ← EReal.coe_mul,
      Ideal.tanh_coe, ← EReal.coe_mul, ← EReal.coe_add]
    congr 1
    have e : Real.exp (-z) = Real.exp (-(1 / 2 * z)) * Real.exp (-(1 / 2 * z)) := by rw [← Real.exp_add]; ring_nf
    have p : Real.exp (1 / 2 * z) * Real.exp (-(1 / 2 * z)) = 1 := by rw [← Real.exp_add]; simp
    rw [Real.tanh_eq_sinh_div_cosh, Real.sinh_eq, Real.cosh_eq, e]
    have h1 : 0 < Real.exp (1 / 2 * z) := Real.exp_pos _
    have h2 : 0 < Real.exp (-(1 / 2 * z)) := Real.exp_pos _
    generalize Real.exp (1 / 2 * z) = a at *
    generalize Real.exp (-(1 / 2 * z)) = b at *
    field_simp
    linear_combination (2 * b) * p

/-- What a point merges. -/
theorem merged_point (c : Dev nD) (t : Fin cfg0.N) (y : S512x1024.Idx) (i : S4x4096x1024.Idx)
    (h0 : (i 0 : ℕ) = (512 * t.val + y 0) / 4096) (h1 : (i 1 : ℕ) = (512 * t.val + y 0) % 4096) (h2 : (i 2 : ℕ) = y 1) :
    k0_pay2 (iblk m c 3 t) (View.ld (iblk m c 5 t) r0_1) (iblk m c 4 t) (View.ld (iblk m c 5 t) r0_2)
      (iblk m c 1 t) (iblk m c 6 t) (iblk m c 2 t) (iblk m c 7 t) y
    = merged (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) i := by
  pointwise [k0_pay2, merged, gates]
  rw [half_tanh _ Cert.KernelIdeal.Ssd.half_bits, half_tanh _ Cert.KernelIdeal.Ssd.half_bits]
  blk_point [iblk, V, idx t]

set_option maxHeartbeats 2000000 in
/-- What a point stores, of the merged array. -/
theorem closing_point (c : Dev nD) (t : Fin cfg0.N) (y : S512x1024.Idx) (j : S16384x1024.Idx)
    (h0 : (j 0 : ℕ) = 512 * t.val + y 0) (h1 : (j 1 : ℕ) = y 1) (M : FVec Ideal S4x4096x1024 .f32) (P : FVec Ideal S512x1024 .f32)
    (hP : P = fun y => M (ix3 ⟨(512 * t.val + y 0) / 4096, by have := (idx t).2.2.2.2.2.2.2.2.2.2.2; have := (y 0).isLt; simp at this; omega⟩
      ⟨(512 * t.val + y 0) % 4096, by omega⟩ (y 1))) :
    k0_pay1 P (iblk m c 8 t) (iblk m c 0 t) (iblk m c 9 t) y
    = closing (m ((c : Thread nD τ).loc main_arg0)) M (m ((c : Thread nD τ).loc main_arg7)) (m ((c : Thread nD τ).loc main_arg8)) j := by
  subst hP
  pointwise [k0_pay1, closing, outOf]
  blk_point [iblk, V, idx t]

end Cert.MergeIdeal.Whole

end
-- ==== Proof.MergeFinal.lean ====
module

public import proofs.«01_k».proof.Proof.MergeValue

/-! The gated merge's result array. -/

@[expose] public section

set_option maxRecDepth 16384

noncomputable section

namespace Cert.MergeIdeal.Whole

open Idealize.ShloMosaic Idealize.ShloMosaic.TcCoe Idealize.SL.Sem
open Cert.MergeIdeal Cert.MergeIdeal.Gen

variable (m : (ℓ : Loc nD τ sig) → Buf (Elt Ideal) ℓ)

set_option maxHeartbeats 400000 in
/-- The result array after the run. -/
theorem final (c : Dev nD) : (dats m 0 c).arrAt 10 (cfgs 0).N
    = closing (m ((c : Thread nD τ).loc main_arg0)) (merged (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6))) (m ((c : Thread nD τ).loc main_arg7)) (m ((c : Thread nD τ).loc main_arg8)) := by
  refine (dats m 0 c).arrAt_eq_of_covers 10 _ (by decide +kernel) fun t _ y => ?_
  blk_simp
  rw [after0_10]; frame_out
  refine closing_point m c t y _ ?_ ?_ _ _ (funext fun y => merged_point m c t y _ rfl rfl rfl)
  all_goals (blk_simp [idx t] <;> try omega)

end Cert.MergeIdeal.Whole

end
-- ==== Proof.ProjValue.lean ====
module

public import proofs.«01_k».proof.Proof.Gen.ProjIdeal.Value
public import proofs.«01_k».proof.Proof.Gen.ProjReferenceIdeal.Run
public import Idealize.ShloMosaic.Lib.Pipeline.ValueKit

/-! The plain projection: every tile is its rows and columns of one product. -/

@[expose] public section

set_option maxRecDepth 16384

noncomputable section

namespace Cert.ProjIdeal.Whole

open Idealize.ShloMosaic Idealize.ShloMosaic.TcCoe Idealize.SL.Sem
open Cert.ProjIdeal Cert.ProjIdeal.Gen

variable (m : (ℓ : Loc nD τ sig) → Buf (Elt Ideal) ℓ)

/-- The product as the reference writes it. -/
abbrev product (h : FVec Ideal S16384x1024 .bf16) (w : FVec Ideal S1024x4096 .f32) : FVec Ideal S16384x4096 .f32 :=
  shapeCast _ (Host.dotGeneral Cert.ProjReferenceIdeal.dot_S4x4096x1024_S1024x4096_S4x4096x4096_2_0_01_1_n_n none
    (shapeCast Cert.ProjReferenceIdeal.S4x4096x1024 (extf .f32 h Cert.ProjReferenceIdeal.Gen.bitsLt_bf16_f32)
      Cert.ProjReferenceIdeal.Gen.shapeCasts_S16384x1024_S4x4096x1024) w)
    Cert.ProjReferenceIdeal.Gen.shapeCasts_S4x4096x4096_S16384x4096

theorem idx : ∀ t : Fin cfg0.N, win0_0.index t = ![t.val / 4, 0] ∧ win0_1.index t = ![0, t.val % 4]
    ∧ win0_2.index t = ![t.val / 4, t.val % 4] ∧ t.val / 4 < 8 :=
  (by decide +kernel : ∀ t : Fin grid0.N, _)

/-- What a point stores. -/
theorem point (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, idx t]

/-- The result array after the run. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ProjIdeal.Whole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Algebraic
public import proofs.«01_k».proof.Proof.Finite
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.MergeIdeal.Value
public import proofs.«01_k».proof.Proof.Gen.ProjIdeal.Value
public import proofs.«01_k».proof.Proof.Gen.MergeReferenceIdeal
public import proofs.«01_k».proof.Proof.Gen.ProjReferenceIdeal
public import proofs.«01_k».proof.Proof.Gen.MergeReferenceIdeal.Run
public import proofs.«01_k».proof.Proof.Gen.ProjReferenceIdeal.Run
public import proofs.«01_k».proof.Proof.MergeFinal
public import proofs.«01_k».proof.Proof.ProjValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's frame. -/
theorem reference_frame : Cert.quiescent_ReferenceIdeal (hReferenceIdeal := Cert.ReferenceIdeal.Gen.facts) := fun m ρ _ =>
  (θ_run _ _ _).mono (fun _ h => ⟨fun c => (h.1 c).2, h.2⟩) (Cert.ReferenceIdeal.Ssd.run m ρ)

/-- From finite arguments the two programs end with the same array. -/
theorem algebraic : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.facts) := by
  intro m g m' g' hp ha
  refine ⟨fun c => Cert.KernelIdeal.Value.G8 m c, Cert.KernelIdeal.Value.run m g, ?_⟩
  refine (θ_run _ _ _).mono (fun r h c => ⟨((h.1 c).1).trans (Cert.Ssd.results_eq m m' c ?_ ?_), (h.1 c).2⟩)
    (Cert.ReferenceIdeal.Ssd.run m' g')
  · exact @Cert.Pre_finite_inputs.finite Cert.Pre_finite_inputs.facts (Cert.KernelIdeal.Ssd.argsOf m c) (hp c)
  · obtain ⟨h0, h1, h2, h3, h4, h5, h6⟩ := ha c
    unfold Cert.ReferenceIdeal.Ssd.argsIn Cert.KernelIdeal.Ssd.argsOf
    exact congr (congr (congr (congr (congr (congr (congrArg Cert.Ssd.Args.mk h0) h1) h2) h3) h4) h5) h6

/-- The frame of the merge's reference. -/
theorem merge_reference_frame : Cert.quiescent_MergeReferenceIdeal (hMergeReferenceIdeal := Cert.MergeReferenceIdeal.Gen.facts) := fun m ρ _ =>
  (θ_run _ _ _).mono (fun _ h => ⟨fun c => (h c).2, sem_eq_zero_of_no_sems rfl _⟩) (Cert.MergeReferenceIdeal.Value.run m ρ)

/-- The merge and its reference end with the same array. -/
theorem merge_algebraic : Cert.algebraic_MergeIdeal_MergeReferenceIdeal (hMergeIdeal := Cert.MergeIdeal.Gen.facts)
    (hMergeReferenceIdeal := Cert.MergeReferenceIdeal.Gen.facts) := by
  intro m g m' g' _ ha
  refine ⟨_, (θ_run _ _ _).mono (fun _ h c => ⟨((h c).1).trans (Cert.MergeIdeal.Whole.final m c), (h c).2⟩) (Cert.MergeIdeal.Value.run_blocks m g),
    (θ_run _ _ _).mono (fun r h c => ⟨((h c).1).trans ?_, (h c).2⟩) (Cert.MergeReferenceIdeal.Value.run m' g')⟩
  obtain ⟨h0, h1, h2, h3, h4, h5, h6, h7, h8⟩ := ha c
  rw [← h0, ← h1, ← h2, ← h3, ← h4, ← h5, ← h6, ← h7, ← h8]
  rfl

/-- The frame of the projection's reference. -/
theorem proj_reference_frame : Cert.quiescent_ProjReferenceIdeal (hProjReferenceIdeal := Cert.ProjReferenceIdeal.Gen.facts) := fun m ρ _ =>
  (θ_run _ _ _).mono (fun _ h => ⟨fun c => (h c).2, sem_eq_zero_of_no_sems rfl _⟩) (Cert.ProjReferenceIdeal.Value.run m ρ)

/-- The projection and its reference end with the same array. -/
theorem proj_algebraic : Cert.algebraic_ProjIdeal_ProjReferenceIdeal (hProjIdeal := Cert.ProjIdeal.Gen.facts)
    (hProjReferenceIdeal := Cert.ProjReferenceIdeal.Gen.facts) := by
  intro m g m' g' _ ha
  refine ⟨_, (θ_run _ _ _).mono (fun _ h c => ⟨((h c).1).trans (Cert.ProjIdeal.Whole.final m c), (h c).2⟩) (Cert.ProjIdeal.Value.run_blocks m g),
    (θ_run _ _ _).mono (fun r h c => ⟨((h c).1).trans ?_, (h c).2⟩) (Cert.ProjReferenceIdeal.Value.run m' g')⟩
  obtain ⟨h0, h1⟩ := ha c
  rw [← h0, ← h1]

/-- Everything claimed. -/
theorem claim : Cert.Claim :=
  ⟨Cert.Kernel.Gen.facts, Cert.KernelIdeal.Gen.facts, Cert.ReferenceIdeal.Gen.facts,
    Cert.Merge.Gen.facts, Cert.MergeIdeal.Gen.facts, Cert.MergeReferenceIdeal.Gen.facts,
    Cert.Proj.Gen.facts, Cert.ProjIdeal.Gen.facts, Cert.ProjReferenceIdeal.Gen.facts, Cert.Pre_finite_inputs.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    fun m ρ _ => Cert.Merge.Gen.frame m ρ, fun m ρ _ => Cert.MergeIdeal.Gen.frame m ρ, merge_reference_frame,
    fun m ρ _ => Cert.Proj.Gen.frame m ρ, fun m ρ _ => Cert.ProjIdeal.Gen.frame m ρ, proj_reference_frame,
    IdealRules.named_const.statement Cert.KernelIdeal.κ "neg_log2e" .f32 0xBFB8AA3B#32 _ rfl, algebraic,
    trivial, merge_algebraic, trivial, proj_algebraic⟩

end Cert.Proof

end
